-- ==== Defs.lean ====
def Pre_Kernel [hPre_edges_named : Cert.Pre_edges_named.Facts] (m : (ℓ : Loc Cert.Kernel.nD Cert.Kernel.τ Cert.Kernel.sig) → Buf (Elt Bits) ℓ) : Prop :=
  ∀ c : Dev Cert.Kernel.nD,
    (Cert.Pre_edges_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_edges_named : Cert.Pre_edges_named.Facts] (m : (ℓ : Loc Cert.KernelIdeal.nD Cert.KernelIdeal.τ Cert.KernelIdeal.sig) → Buf (Elt Ideal) ℓ) : Prop :=
  ∀ c : Dev Cert.KernelIdeal.nD,
    (Cert.Pre_edges_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_named [hPre_edges_named : Cert.Pre_edges_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_edges_named : Cert.Pre_edges_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_edges_named : Cert.Pre_edges_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_edges_named [hReferenceIdeal : Cert.ReferenceIdeal.Facts] [hPre_edges_named : Cert.Pre_edges_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_edges_named : Cert.Pre_edges_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_edges_named : Cert.Pre_edges_named.Facts),
    quiescent_Kernel (hKernel := hKernel) (hPre_edges_named := hPre_edges_named)
    ∧ quiescent_KernelIdeal (hKernelIdeal := hKernelIdeal) (hPre_edges_named := hPre_edges_named)
    ∧ quiescent_ReferenceIdeal (hReferenceIdeal := hReferenceIdeal)
    ∧ quiescent_ReferenceIdeal_pre_edges_named (hReferenceIdeal := hReferenceIdeal) (hPre_edges_named := hPre_edges_named)
    ∧ preserves_Kernel_KernelIdeal
    ∧ algebraic_KernelIdeal_ReferenceIdeal (hKernelIdeal := hKernelIdeal) (hReferenceIdeal := hReferenceIdeal) (hPre_edges_named := hPre_edges_named)
-- ==== Pre_edges_named.lean ====
abbrev S50000x32 : Shape := ⟨2, ![50000, 32]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S2x800000 : S_.BroadcastsInDim S2x800000 (![] : Fin 0 → Fin S2x800000.rank)

variable [Facts]

def fn {F : FTy → Type} [FloatOps F] (main_arg0 : FVec F S50000x32 .f32) (main_arg1 : FVec F S50000x32 .f32) (main_arg2 : FVec F S50000x32 .f32) (main_arg3 : FVec F S50000x32 .f32) (main_arg4 : IVec S2x800000 32) (main_arg5 : FVec F S64x64 .f32) (main_arg6 : FVec F S64 .f32) (main_arg7 : FVec F S64x64 .f32) (main_arg8 : FVec F S64 .f32) : IVec S2x800000 1 :=
  let main_c : IVec S_ 32 := constantI S_ 32 0#32
  let main_v0 : IVec S2x800000 32 := broadcastInDim S2x800000 ![] bcast_S_S2x800000 main_c
  let main_v1 : IVec S2x800000 1 := cmpi .sge main_arg4 main_v0
  let main_c_0 : IVec S_ 32 := constantI S_ 32 49999#32
  let main_v2 : IVec S2x800000 32 := broadcastInDim S2x800000 ![] bcast_S_S2x800000 main_c_0
  let main_v3 : IVec S2x800000 1 := cmpi .sle main_arg4 main_v2
  let main_v4 : IVec S2x800000 1 := andi main_v1 main_v3
  main_v4
-- ==== Kernel.lean ====
abbrev S50000x32 : Shape := ⟨2, ![50000, 32]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S8x100352 : Shape := ⟨2, ![8, 100352]⟩
abbrev S1x2816 : Shape := ⟨2, ![1, 2816]⟩
abbrev S1x100352 : Shape := ⟨2, ![1, 100352]⟩
abbrev S1x97536 : Shape := ⟨2, ![1, 97536]⟩
abbrev S802816 : Shape := ⟨1, ![802816]⟩
abbrev S1605632 : Shape := ⟨1, ![1605632]⟩
abbrev S25088 : Shape := ⟨1, ![25088]⟩
abbrev S50176 : Shape := ⟨1, ![50176]⟩
abbrev S_ : Shape := ⟨0, ![]⟩
abbrev S16 : Shape := ⟨1, ![16]⟩
abbrev S32x50176 : Shape := ⟨2, ![32, 50176]⟩
abbrev S50000x64 : Shape := ⟨2, ![50000, 64]⟩
abbrev S800000x1 : Shape := ⟨2, ![800000, 1]⟩
abbrev S800000x64 : Shape := ⟨2, ![800000, 64]⟩
abbrev S1x64 : Shape := ⟨2, ![1, 64]⟩
abbrev S6272x64 : Shape := ⟨2, ![6272, 64]⟩
abbrev S32x6272 : Shape := ⟨2, ![32, 6272]⟩
abbrev S6272x32 : Shape := ⟨2, ![6272, 32]⟩
abbrev S6272 : Shape := ⟨1, ![6272]⟩
abbrev S6272x1 : Shape := ⟨2, ![6272, 1]⟩

abbrev nBuf : Table → Nat
  | .hbm => 65
  | .local .tc .vmem => 24
  | .local .scVector .vmem => 2
  | _ => 0

abbrev bufTy : (tb : Table) → Fin (nBuf tb) → BufTy
  | .hbm, ⟨0, _⟩ => ⟨S50000x32, .f32⟩
  | .hbm, ⟨1, _⟩ => ⟨S50000x32, .f32⟩
  | .hbm, ⟨2, _⟩ => ⟨S50000x32, .f32⟩
  | .hbm, ⟨3, _⟩ => ⟨S50000x32, .f32⟩
  | .hbm, ⟨4, _⟩ => ⟨S2x800000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S8x100352, .i32⟩
  | .hbm, ⟨15, _⟩ => ⟨S802816, .i32⟩
  | .hbm, ⟨16, _⟩ => ⟨S1605632, .f32⟩
  | .hbm, ⟨17, _⟩ => ⟨S32x50176, .f32⟩
  | .hbm, ⟨18, _⟩ => ⟨S50000x64, .f32⟩
  | .hbm, ⟨19, _⟩ => ⟨S_, .f32⟩
  | .hbm, ⟨20, _⟩ => ⟨S50000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S50000x64, .f32⟩
  | .hbm, ⟨39, _⟩ => ⟨S1x64, .f32⟩
  | .hbm, ⟨40, _⟩ => ⟨S50000x32, .f32⟩
  | .hbm, ⟨41, _⟩ => ⟨S50000x32, .f32⟩
  | .hbm, ⟨42, _⟩ => ⟨S50000x64, .f32⟩
  | .hbm, ⟨43, _⟩ => ⟨S_, .f32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S50000x64, .f32⟩
  | .hbm, ⟨63, _⟩ => ⟨S1x64, .f32⟩
  | .hbm, ⟨64, _⟩ => ⟨S50000x32, .f32⟩
  | .local .tc .vmem, ⟨0, _⟩ => ⟨S1x800000, .i32⟩
  | .local .tc .vmem, ⟨1, _⟩ => ⟨S8x100352, .i32⟩
  | .local .tc .vmem, ⟨2, _⟩ => ⟨S6272x64, .f32⟩
  | .local .tc .vmem, ⟨3, _⟩ => ⟨S6272x64, .f32⟩
  | .local .tc .vmem, ⟨4, _⟩ => ⟨S32x6272, .f32⟩
  | .local .tc .vmem, ⟨5, _⟩ => ⟨S32x6272, .f32⟩
  | .local .tc .vmem, ⟨6, _⟩ => ⟨S64x64, .f32⟩
  | .local .tc .vmem, ⟨7, _⟩ => ⟨S1x64, .f32⟩
  | .local .tc .vmem, ⟨8, _⟩ => ⟨S6272x32, .f32⟩
  | .local .tc .vmem, ⟨9, _⟩ => ⟨S6272x32, .f32⟩
  | .local .tc .vmem, ⟨10, _⟩ => ⟨S6272x32, .f32⟩
  | .local .tc .vmem, ⟨11, _⟩ => ⟨S6272x32, .f32⟩
  | .local .tc .vmem, ⟨12, _⟩ => ⟨S6272x64, .f32⟩
  | .local .tc .vmem, ⟨13, _⟩ => ⟨S6272x64, .f32⟩
  | .local .tc .vmem, ⟨14, _⟩ => ⟨S32x6272, .f32⟩
  | .local .tc .vmem, ⟨15, _⟩ => ⟨S32x6272, .f32⟩
  | .local .tc .vmem, ⟨16, _⟩ => ⟨S6272x32, .f32⟩
  | .local .tc .vmem, ⟨17, _⟩ => ⟨S6272x32, .f32⟩
  | .local .tc .vmem, ⟨18, _⟩ => ⟨S6272x32, .f32⟩
  | .local .tc .vmem, ⟨19, _⟩ => ⟨S6272x32, .f32⟩
  | .local .tc .vmem, ⟨20, _⟩ => ⟨S64x64, .f32⟩
  | .local .tc .vmem, ⟨21, _⟩ => ⟨S1x64, .f32⟩
  | .local .tc .vmem, ⟨22, _⟩ => ⟨S6272x32, .f32⟩
  | .local .tc .vmem, ⟨23, _⟩ => ⟨S6272x32, .f32⟩
  | .local .scVector .vmem, ⟨0, _⟩ => ⟨S25088, .i32⟩
  | .local .scVector .vmem, ⟨1, _⟩ => ⟨S50176, .f32⟩
  | _, _ => ⟨S50000x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v6_scv : Ref sig .scVector := ⟨.hbm, 15, rfl⟩
abbrev main_v7_scv : Ref sig .scVector := ⟨.hbm, 16, rfl⟩
abbrev cc0_stg0_0 : Ref sig .tc := ⟨.vmem, 0, rfl⟩
abbrev cc0_stg1_0 : Ref sig .tc := ⟨.vmem, 1, rfl⟩
abbrev cc2_stg0_0 : Ref sig .tc := ⟨.vmem, 2, rfl⟩
abbrev cc2_stg0_1 : Ref sig .tc := ⟨.vmem, 3, rfl⟩
abbrev cc2_stg1_0 : Ref sig .tc := ⟨.vmem, 4, rfl⟩
abbrev cc2_stg1_1 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg4_1 : Ref sig .tc := ⟨.vmem, 9, rfl⟩
abbrev cc2_stg5_0 : Ref sig .tc := ⟨.vmem, 10, rfl⟩
abbrev cc2_stg5_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg6_1 : Ref sig .tc := ⟨.vmem, 23, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc2_sem0_0 : DmaSem sig := 4
abbrev cc2_sem0_1 : DmaSem sig := 5
abbrev cc2_sem1_0 : DmaSem sig := 6
abbrev cc2_sem1_1 : DmaSem sig := 7
abbrev cc2_sem2_0 : DmaSem sig := 8
abbrev cc2_sem3_0 : DmaSem sig := 9
abbrev cc2_sem4_0 : DmaSem sig := 10
abbrev cc2_sem4_1 : DmaSem sig := 11
abbrev cc2_sem5_0 : DmaSem sig := 12
abbrev cc2_sem5_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22
abbrev cc3_sem5_0 : DmaSem sig := 23
abbrev cc3_sem6_0 : DmaSem sig := 24
abbrev cc3_sem6_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x800000 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x100352 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25088_i32 : BitVec 32 := 25088#32
  let v2 : BitVec 32 := Scalar.muli v1 c25088_i32
  v2
def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25088_i32 : BitVec 32 := 25088#32
  let v2 : BitVec 32 := Scalar.muli v1 c25088_i32
  let v3 : BitVec 32 := v2
  ![v3.toNat]
@[reducible] def k1_t1_loop : Scf.Loop 32 :=
  let c0_i32_0 : BitVec 32 := 0#32
  let c3136_i32 : BitVec 32 := 3136#32
  let v5 : BitVec 32 := Scalar.addi c0_i32_0 c3136_i32
  let c1_i32 : BitVec 32 := 1#32
  ⟨c0_i32_0, v5, c1_i32⟩
def k1_off2 (k1_t1 : Fin k1_t1_loop.trips) : Fin 1 → Nat :=
  let c0_i32_0 : BitVec 32 := 0#32
  let c1_i32 : BitVec 32 := 1#32
  let arg6 : BitVec 32 := Scf.iv c0_i32_0 c1_i32 k1_t1
  let c16_i32 : BitVec 32 := 16#32
  let v9 : BitVec 32 := Scalar.muli arg6 c16_i32
  let v10 : Index := Scalar.indexCast v9
  ![v10.toNat]
@[reducible] def k1_t2_loop : Scf.Loop 32 :=
  let c0_i32_3 : BitVec 32 := 0#32
  let c1568_i32 : BitVec 32 := 1568#32
  let v6 : BitVec 32 := Scalar.addi c0_i32_3 c1568_i32
  let c1_i32_4 : BitVec 32 := 1#32
  ⟨c0_i32_3, v6, c1_i32_4⟩
def k1_off3 (k1_t2 : Fin k1_t2_loop.trips) : Fin 1 → Nat :=
  let c0_i32_3 : BitVec 32 := 0#32
  let c1_i32_4 : BitVec 32 := 1#32
  let arg6 : BitVec 32 := Scf.iv c0_i32_3 c1_i32_4 k1_t2
  let c16_i32 : BitVec 32 := 16#32
  let v9 : BitVec 32 := Scalar.muli arg6 c16_i32
  let v10 : Index := Scalar.indexCast v9
  ![v10.toNat]

def k1_chk1 (v11 : IVec S16 32) : Prop :=
  (∀ a x, ((![v11] : Fin 1 → IVec S16 32) a x).toNat < S50176.size a)
theorem k1_idx1_inb : ∀ (v11 : IVec S16 32) (k1_hw1 : k1_chk1 v11), ∀ a x, ((![v11] : Fin 1 → IVec S16 32) a x).toNat < S50176.size a := fun v11 k1_hw1 => k1_hw1
def k1_mult2 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v7 : BitVec 32 := Scalar.muli v1 c50176_i32
  v7
def k1_off4 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v7 : BitVec 32 := Scalar.muli v1 c50176_i32
  let v8 : BitVec 32 := v7
  ![v8.toNat]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6272x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x6272 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S6272x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S6272x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6272x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S32x6272 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6272x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S6272x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S6272x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x32 : Shape := ⟨2, ![50000, 32]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S50000x32, .f32⟩
  | .hbm, ⟨2, _⟩ => ⟨S50000x32, .f32⟩
  | .hbm, ⟨3, _⟩ => ⟨S50000x32, .f32⟩
  | .hbm, ⟨4, _⟩ => ⟨S2x800000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x64, .f32⟩
  | .hbm, ⟨14, _⟩ => ⟨S_, .f32⟩
  | .hbm, ⟨15, _⟩ => ⟨S50000x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S50000x64, .f32⟩
  | .hbm, ⟨34, _⟩ => ⟨S_, .f32⟩
  | .hbm, ⟨35, _⟩ => ⟨S50000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S_, .f32⟩
  | .hbm, ⟨45, _⟩ => ⟨S800000, .f32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S50000x64, .f32⟩
  | .hbm, ⟨59, _⟩ => ⟨S50000x64, .f32⟩
  | .hbm, ⟨60, _⟩ => ⟨S_, .f32⟩
  | .hbm, ⟨61, _⟩ => ⟨S50000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S50000x64, .f32⟩
  | .hbm, ⟨80, _⟩ => ⟨S_, .f32⟩
  | .hbm, ⟨81, _⟩ => ⟨S50000, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S_, .f32⟩
  | .hbm, ⟨91, _⟩ => ⟨S800000, .f32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x64, .f32⟩
  | .hbm, ⟨98, _⟩ => ⟨S50000x64, .f32⟩
  | .hbm, ⟨99, _⟩ => ⟨S50000x64, .f32⟩
  | .hbm, ⟨100, _⟩ => ⟨S1x64, .f32⟩
  | .hbm, ⟨101, _⟩ => ⟨S50000x64, .f32⟩
  | .hbm, ⟨102, _⟩ => ⟨S50000x64, .f32⟩
  | .hbm, ⟨103, _⟩ => ⟨S50000x32, .f32⟩
  | .hbm, ⟨104, _⟩ => ⟨S50000x32, .f32⟩
  | .hbm, ⟨105, _⟩ => ⟨S50000x32, .f32⟩
  | .hbm, ⟨106, _⟩ => ⟨S50000x32, .f32⟩
  | .hbm, ⟨107, _⟩ => ⟨S50000x32, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_c_14 : Ref sig .tc := ⟨.hbm, 82, rfl⟩
abbrev main_v55 : Ref sig .tc := ⟨.hbm, 83, rfl⟩
abbrev main_v56 : Ref sig .tc := ⟨.hbm, 84, rfl⟩
abbrev main_c_15 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_16 : Ref sig .tc := ⟨.hbm, 90, rfl⟩
abbrev main_v61 : Ref sig .tc := ⟨.hbm, 91, rfl⟩
abbrev main_v62 : Ref sig .tc := ⟨.hbm, 92, rfl⟩
abbrev main_cst_17 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]
-- ==== Proof.Names.lean ====
/-
  The names the run of the idealized kernel is stated over: the SparseCore launch as the library's launch theorem sees it, the
  resource algebra (the handshakes' rounds, the pipelines' rounds, the transfers' counters), the buffers, and the values that
  pass through them: the flat row of destinations, one tile's histogram, the whole table of counts.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch -/

/-- The labels of the three TensorCore calls. -/
abbrev ΛP : Labels := Pipeline.Sig Λ₀ (Fin 3) fun p => (pcfgs (F := F) p).Adm
/-- The SparseCore call's launch: two SparseCores of sixteen tiles. -/
abbrev K : SparseCore.Cfg τ sig (ΛP (F := F)) 1 := sc (F := F)
theorem nSub_zero : (K (F := F)).nSub 0 = 16 := rfl
theorem nCore_zero : (K (F := F)).nCore 0 = 2 := rfl
/-- The body table below the SparseCore launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-! ## The values -/

/-- Position `k` (modulo the length) of a vector of `n` lanes. -/
def lane (n : ℕ) (k : ℕ) [NeZero n] : (⟨1, ![n]⟩ : Shape).Idx :=
  Shape.ofLane (d := ![n]) ⟨k % n, Nat.mod_lt _ (Nat.pos_of_ne_zero (NeZero.ne n))⟩

theorem lane_val (n k : ℕ) [NeZero n] : (lane n k 0).val = k % n := rfl

theorem lane_self (n : ℕ) [NeZero n] (j : (⟨1, ![n]⟩ : Shape).Idx) : lane n (j 0).val = j := by
  funext a
  obtain rfl : a = 0 := Subsingleton.elim _ _
  exact Fin.ext ((lane_val n _).trans (Nat.mod_eq_of_lt (j 0).isLt))

theorem lane_eq (n k : ℕ) [NeZero n] (j : (⟨1, ![n]⟩ : Shape).Idx) (h : k = (j 0).val) : lane n k = j := h ▸ lane_self n j

variable [FloatOps F]

/-- One trip's index chunk of a tile's destinations: words `16 k` to `16 k + 15`. -/
def chunk (dst : Vec F S25088 .i32) (k : ℕ) : Vec F S16 .i32 :=
  fun x => dst (lane 25088 (16 * k + (x 0).val))

/-- One trip of the count loop on the histogram: the scatter-add of the running counts at the last occurrence of each index. -/
def bump (v : Vec F S16 .i32) (g : Vec F S50176 .f32) : Vec F S50176 .f32 :=
  if h : k1_chk1 v then storeIdx g ![v] (k1_pay4 v) (k1_pay3 v) true (k1_idx1_inb v h) else g

/-- A tile's histogram after `k` trips of the count loop. -/
def histAt (dst : Vec F S25088 .i32) : ℕ → Vec F S50176 .f32
  | 0 => fun _ => Scalar.ofBits .f32 0x00000000#32
  | k + 1 => bump (chunk dst k) (histAt dst k)

/-- Tile `w`'s 25088 words of the flat row of destinations. -/
def sliceOf (a : Vec F S802816 .i32) (w : ℕ) : Vec F S25088 .i32 :=
  fun x => a (lane 802816 (25088 * w + (x 0).val))

/-- The table of counts the SparseCore call leaves: row `w` of it is tile `w`'s histogram. -/
def countsOf (a : Vec F S802816 .i32) : Vec F S1605632 .f32 :=
  fun j => histAt (sliceOf a ((j 0).val / 50176)) 1568 (lane 50176 (j 0).val)

end Cert.Proof.Run

end
-- ==== Proof.Bodies.lean ====
/-
  The three bodies the TensorCore runs at a grid point, each over abstract whole staging buffers: what every buffer holds
  afterwards, as a function of what the buffers held.
-/
module

public import proofs.«01_k».proof.Proof.Names
public import Idealize.ShloMosaic.Lib.Pipeline.Value

@[expose] public section

noncomputable section

namespace Cert.Proof.Run

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

theorem off_zero : (![0, 0] : Fin 2 → Nat) = fun _ => 0 := by decide

/-- A load of the whole of a buffer of two dimensions reads its contents. -/
theorem load_all {Val : EltTy → Type} {s : Shape} {e : EltTy} {sp : Space} (m : Memref sig .tc sp s e)
    {off : Fin s.rank → Nat} (ho : off = fun _ => 0) (inb : ∀ a, off a + s.size a ≤ s.size a)
    (f : m.view.ty.Contents Val) {X : s.Idx → Val e} (h : m.view.read Val f = X) :
    m.view.readAt Val (Rect.unit (s := s) off s.size inb).toLoadRect f = X := by
  rw [View.readAt_eq_ld, h, View.ld_unit_zero ho]

/-- A store of the whole of a buffer leaves what was stored. -/
theorem store_all {Val : EltTy → Type} [∀ e, Nonempty (Val e)] {s : Shape} {e : EltTy} {sp : Space} (m : Memref sig .tc sp s e)
    {off : Fin s.rank → Nat} (ho : off = fun _ => 0) (inb : ∀ a, off a + s.size a ≤ s.size a)
    (f : m.view.ty.Contents Val) (w : s.Idx → Val e) :
    m.view.read Val (m.view.writes Val f [⟨Rect.unit (s := s) off s.size inb, w⟩]) = w := by
  rw [View.read_writes_eq_canon _ _ _ fun y => ⟨_, List.mem_singleton_self _, View.mem_set_unit_zero ho inb y⟩,
    View.canon_unit_zero ho]

/-- The body of the first call: the row of destinations laid out in eight padded rows. -/
theorem edges_body [∀ e, Nonempty (Elt F e)] (c : Dev nD) (i : grid0.Coords)
    (m1 : Memref sig .tc .vmem S1x800000 .i32) (h1 : m1.IsWhole)
    (m2 : Memref sig .tc .vmem S8x100352 .i32) (h2 : m2.IsWhole)
    (X1 : Vec F S1x800000 .i32) (X2 : Vec F S8x100352 .i32) :
    iprop(owns (c.tc : Thread nD τ) m1 fullShare X1 ∗ owns (c.tc : Thread nD τ) m2 fullShare X2)
      ⊢ (wp frame (wpE (defs₀ (F := F)) 𝒱₀ (c.tc : Thread nD τ) none) Set.univ (cc0__edges_body i m1 h1 m2 h2) fun _ =>
        iprop(owns (c.tc : Thread nD τ) m1 fullShare X1
          ∗ owns (c.tc : Thread nD τ) m2 fullShare (k0_pay1 X1)) : sProp 𝕄) := by
  rw [cc0__edges_body_eq_skeleton]
  unfold owns
  iintro ⟨⟨%f1, %e1, H1⟩, ⟨%f2, %e2, H2⟩⟩
  have r1 := load_all (Val := Elt F) (s := S1x800000) m1 (off := ![0, 0]) off_zero inb_S1x800000_S1x800000_0_0 f1 e1
  sl_unfold [cc0__edges_body_skel]
  sl_exec
  sl_step
  isplitl [H1]
  · iexists _; isplitr; swap
    · iexact H1
    · ipureintro; exact e1
  iexists _; isplitr; swap
  · iexact H2
  · ipureintro; exact (store_all (Val := Elt F) m2 off_zero _ _ _).trans (by first | rw [r1] | rfl)

/-- The body of the second call: a block of rows of the first layer, in its two halves. -/
theorem dense1_body [∀ e, Nonempty (Elt F e)] (c : Dev nD) (i : grid2.Coords)
    (m1 : Memref sig .tc .vmem S6272x64 .f32) (h1 : m1.IsWhole)
    (m2 : Memref sig .tc .vmem S32x6272 .f32) (h2 : m2.IsWhole)
    (m3 : Memref sig .tc .vmem S64x64 .f32) (h3 : m3.IsWhole)
    (m4 : Memref sig .tc .vmem S1x64 .f32) (h4 : m4.IsWhole)
    (m5 : Memref sig .tc .vmem S6272x32 .f32) (h5 : m5.IsWhole)
    (m6 : Memref sig .tc .vmem S6272x32 .f32) (h6 : m6.IsWhole)
    (X1 : Vec F S6272x64 .f32) (X2 : Vec F S32x6272 .f32) (X3 : Vec F S64x64 .f32) (X4 : Vec F S1x64 .f32) (X5 : Vec F S6272x32 .f32) (X6 : Vec F S6272x32 .f32) :
    iprop(owns (c.tc : Thread nD τ) m1 fullShare X1 ∗ owns (c.tc : Thread nD τ) m2 fullShare X2 ∗ owns (c.tc : Thread nD τ) m3 fullShare X3 ∗ owns (c.tc : Thread nD τ) m4 fullShare X4 ∗ owns (c.tc : Thread nD τ) m5 fullShare X5 ∗ owns (c.tc : Thread nD τ) m6 fullShare X6)
      ⊢ (wp frame (wpE (defs₀ (F := F)) 𝒱₀ (c.tc : Thread nD τ) none) Set.univ (cc2__dense1_body i m1 h1 m2 h2 m3 h3 m4 h4 m5 h5 m6 h6) fun _ =>
        iprop(owns (c.tc : Thread nD τ) m1 fullShare X1
          ∗ owns (c.tc : Thread nD τ) m2 fullShare X2
          ∗ owns (c.tc : Thread nD τ) m3 fullShare X3
          ∗ owns (c.tc : Thread nD τ) m4 fullShare X4
          ∗ owns (c.tc : Thread nD τ) m5 fullShare (k2_pay2 X2 X1 X3 X4)
          ∗ owns (c.tc : Thread nD τ) m6 fullShare (k2_pay3 X2 X1 X3 X4)) : sProp 𝕄) := by
  rw [cc2__dense1_body_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩⟩
  have r1 := load_all (Val := Elt F) (s := S6272x64) m1 (off := ![0, 0]) off_zero inb_S6272x64_S6272x64_0_0 f1 e1
  have r2 := load_all (Val := Elt F) (s := S32x6272) m2 (off := ![0, 0]) off_zero inb_S32x6272_S32x6272_0_0 f2 e2
  have r3 := load_all (Val := Elt F) (s := S64x64) m3 (off := ![0, 0]) off_zero inb_S64x64_S64x64_0_0 f3 e3
  have r4 := load_all (Val := Elt F) (s := S1x64) m4 (off := ![0, 0]) off_zero inb_S1x64_S1x64_0_0 f4 e4
  sl_unfold [cc2__dense1_body_skel]
  sl_exec
  sl_step
  isplitl [H1]
  · iexists _; isplitr; swap
    · iexact H1
    · ipureintro; exact e1
  isplitl [H2]
  · iexists _; isplitr; swap
    · iexact H2
    · ipureintro; exact e2
  isplitl [H3]
  · iexists _; isplitr; swap
    · iexact H3
    · ipureintro; exact e3
  isplitl [H4]
  · iexists _; isplitr; swap
    · iexact H4
    · ipureintro; exact e4
  isplitl [H5]
  · iexists _; isplitr; swap
    · iexact H5
    · ipureintro; exact (store_all (Val := Elt F) m5 off_zero _ _ _).trans (by first | rw [r1, r2, r3, r4] | rfl)
  iexists _; isplitr; swap
  · iexact H6
  · ipureintro; exact (store_all (Val := Elt F) m6 off_zero _ _ _).trans (by first | rw [r1, r2, r3, r4] | rfl)

/-- The body of the third call: a block of rows of the second layer, combined with the two masks. -/
theorem dense2_body [∀ e, Nonempty (Elt F e)] (c : Dev nD) (i : grid3.Coords)
    (m1 : Memref sig .tc .vmem S6272x64 .f32) (h1 : m1.IsWhole)
    (m2 : Memref sig .tc .vmem S32x6272 .f32) (h2 : m2.IsWhole)
    (m3 : Memref sig .tc .vmem S6272x32 .f32) (h3 : m3.IsWhole)
    (m4 : Memref sig .tc .vmem S6272x32 .f32) (h4 : m4.IsWhole)
    (m5 : Memref sig .tc .vmem S64x64 .f32) (h5 : m5.IsWhole)
    (m6 : Memref sig .tc .vmem S1x64 .f32) (h6 : m6.IsWhole)
    (m7 : Memref sig .tc .vmem S6272x32 .f32) (h7 : m7.IsWhole)
    (X1 : Vec F S6272x64 .f32) (X2 : Vec F S32x6272 .f32) (X3 : Vec F S6272x32 .f32) (X4 : Vec F S6272x32 .f32) (X5 : Vec F S64x64 .f32) (X6 : Vec F S1x64 .f32) (X7 : Vec F S6272x32 .f32) :
    iprop(owns (c.tc : Thread nD τ) m1 fullShare X1 ∗ owns (c.tc : Thread nD τ) m2 fullShare X2 ∗ owns (c.tc : Thread nD τ) m3 fullShare X3 ∗ owns (c.tc : Thread nD τ) m4 fullShare X4 ∗ owns (c.tc : Thread nD τ) m5 fullShare X5 ∗ owns (c.tc : Thread nD τ) m6 fullShare X6 ∗ owns (c.tc : Thread nD τ) m7 fullShare X7)
      ⊢ (wp frame (wpE (defs₀ (F := F)) 𝒱₀ (c.tc : Thread nD τ) none) Set.univ (cc3__dense2_body i m1 h1 m2 h2 m3 h3 m4 h4 m5 h5 m6 h6 m7 h7) fun _ =>
        iprop(owns (c.tc : Thread nD τ) m1 fullShare X1
          ∗ owns (c.tc : Thread nD τ) m2 fullShare X2
          ∗ owns (c.tc : Thread nD τ) m3 fullShare X3
          ∗ owns (c.tc : Thread nD τ) m4 fullShare X4
          ∗ owns (c.tc : Thread nD τ) m5 fullShare X5
          ∗ owns (c.tc : Thread nD τ) m6 fullShare X6
          ∗ owns (c.tc : Thread nD τ) m7 fullShare (k3_pay1 X2 X1 X5 X6 X3 X4)) : sProp 𝕄) := by
  rw [cc3__dense2_body_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  have r1 := load_all (Val := Elt F) (s := S6272x64) m1 (off := ![0, 0]) off_zero inb_S6272x64_S6272x64_0_0 f1 e1
  have r2 := load_all (Val := Elt F) (s := S32x6272) m2 (off := ![0, 0]) off_zero inb_S32x6272_S32x6272_0_0 f2 e2
  have r3 := load_all (Val := Elt F) (s := S6272x32) m3 (off := ![0, 0]) off_zero inb_S6272x32_S6272x32_0_0 f3 e3
  have r4 := load_all (Val := Elt F) (s := S6272x32) m4 (off := ![0, 0]) off_zero inb_S6272x32_S6272x32_0_0 f4 e4
  have r5 := load_all (Val := Elt F) (s := S64x64) m5 (off := ![0, 0]) off_zero inb_S64x64_S64x64_0_0 f5 e5
  have r6 := load_all (Val := Elt F) (s := S1x64) m6 (off := ![0, 0]) off_zero inb_S1x64_S1x64_0_0 f6 e6
  sl_unfold [cc3__dense2_body_skel]
  sl_exec
  sl_step
  isplitl [H1]
  · iexists _; isplitr; swap
    · iexact H1
    · ipureintro; exact e1
  isplitl [H2]
  · iexists _; isplitr; swap
    · iexact H2
    · ipureintro; exact e2
  isplitl [H3]
  · iexists _; isplitr; swap
    · iexact H3
    · ipureintro; exact e3
  isplitl [H4]
  · iexists _; isplitr; swap
    · iexact H4
    · ipureintro; exact e4
  isplitl [H5]
  · iexists _; isplitr; swap
    · iexact H5
    · ipureintro; exact e5
  isplitl [H6]
  · iexists _; isplitr; swap
    · iexact H6
    · ipureintro; exact e6
  iexists _; isplitr; swap
  · iexact H7
  · ipureintro; exact (store_all (Val := Elt F) m7 off_zero _ _ _).trans (by first | rw [r1, r2, r3, r4, r5, r6] | rfl)

end Cert.Proof.Run

end
-- ==== Proof.Region.lean ====
/-
  The three TensorCore calls as regions of @main: what a call's body leaves in its staging buffers at a grid point as one
  function of what it finds, the proof data of a call entered at a valuation of the device's buffers, and the triple of a call —
  from the buffers held at `V` to the buffers held at some `V'` that differs from `V` on the call's arrays only and whose arrays
  are what the write-backs of every point leave.
-/
module

public import proofs.«01_k».proof.Proof.Bodies
public import Idealize.ShloMosaic.Lib.Pipeline.Regions
public import Idealize.ShloMosaic.Lib.Pipeline.RegionArrays
public import Idealize.ShloMosaic.Lib.Pipeline.FrameBody
public import Idealize.SL.Util.Pi

@[expose] public section

noncomputable section

namespace Cert.Proof.Run

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx)
open Idealize.ShloMosaic.Pipeline (arrRef arrRefs pin cellsGhost toksInit scopedRest ownSems0 owesWithin prefHeld)

variable {F : FTy → Type} [FloatOps F]

local notation "𝕄" => MT nD τ sig (HIx 1) (Elt F) ℕ UU ℕ

/-! ## The ghost state's parts -/

/-- The handshakes' part of the user algebra. -/
abbrev EH : Emb UH (MT nD τ sig (HIx 1) (Elt F) ℕ UU ℕ) := embL
/-- The pipelines' part. -/
def EP : Emb UP (MT nD τ sig (HIx 1) (Elt F) ℕ UU ℕ) := (Emb.inl : Emb UP (UP × Counters)).trans embR

instance EP_lands : (EP (F := F)).LandsIn (upEmb : UEmb _ (MT nD τ sig (HIx 1) (Elt F) ℕ UU ℕ)) := by unfold EP; infer_instance

/-- No call prefetches a table. -/
abbrev adm : (p : Fin 3) → (pcfgs (F := F) p).Adm := fun p => (cfgs p).toPCfg_adm

/-! ## What a body leaves -/

/-- The contents of every staging buffer of call `p` at one point. -/
abbrev Blocks (F : FTy → Type) (p : Fin 3) : Type :=
  (w : Fin (cfgs p).W) → ((cfgs p).win w).block.Idx → Elt F ((cfgs p).win w).elt

/-- What the body of the edges call leaves. -/
def pay0 (Y : Blocks F 0) : Blocks F 0 := fun w => match w with
  | 0 => Y 0
  | 1 => k0_pay1 (Y 0)

/-- What the body of the first dense call leaves. -/
def pay1 (Y : Blocks F 1) : Blocks F 1 := fun w => match w with
  | 0 => Y 0
  | 1 => Y 1
  | 2 => Y 2
  | 3 => Y 3
  | 4 => k2_pay2 (Y 1) (Y 0) (Y 2) (Y 3)
  | 5 => k2_pay3 (Y 1) (Y 0) (Y 2) (Y 3)

/-- What the body of the second dense call leaves. -/
def pay2 (Y : Blocks F 2) : Blocks F 2 := fun w => match w with
  | 0 => Y 0
  | 1 => Y 1
  | 2 => Y 2
  | 3 => Y 3
  | 4 => Y 4
  | 5 => Y 5
  | 6 => k3_pay1 (Y 1) (Y 0) (Y 4) (Y 5) (Y 2) (Y 3)

/-- What the body of call `p` leaves in its staging buffers, from what it finds in them. -/
def pay : (p : Fin 3) → Blocks F p → Blocks F p
  | 0 => pay0
  | 1 => pay1
  | 2 => pay2

theorem pay_in (p : Fin 3) (Y : Blocks F p) (w : Fin (cfgs p).W) (h : ((cfgs p).win w).isOut = false) : pay p Y w = Y w := by
  match p, w, h with
  | 0, 0, _ => exact rfl
  | 0, 1, h => exact absurd h (by decide)
  | 1, 0, _ => exact rfl
  | 1, 1, _ => exact rfl
  | 1, 2, _ => exact rfl
  | 1, 3, _ => exact rfl
  | 1, 4, h => exact absurd h (by decide)
  | 1, 5, h => exact absurd h (by decide)
  | 2, 0, _ => exact rfl
  | 2, 1, _ => exact rfl
  | 2, 2, _ => exact rfl
  | 2, 3, _ => exact rfl
  | 2, 4, _ => exact rfl
  | 2, 5, _ => exact rfl
  | 2, 6, h => exact absurd h (by decide)

/-! ## The proof data of a call -/

/-- What the fetch at point `t` puts in window `w`'s staging buffer, if it held `d`, the device's buffers at `V`. -/
def fetchedAt (V : Valuation τ sig (Elt F)) (p : Fin 3) (w : Fin (cfgs p).W) (t : Fin (cfgs p).N)
    (d : ((cfgs p).win w).block.Idx → Elt F ((cfgs p).win w).elt) : ((cfgs p).win w).block.Idx → Elt F ((cfgs p).win w).elt :=
  ((cfgs p).win w).fill ((cfgs p).grid.coords t) d
    ((((cfgs p).win w).blk t).view.read (Elt F) (V (Proc.devRef .tc (arrRef (cfgs p).spec w))))

/-- What a body may leave at point `t`: `pay` of contents that agree with what it found and whose inputs are fetched blocks. -/
def LeftAt (V : Valuation τ sig (Elt F)) (p : Fin 3) (w : Fin (cfgs p).W) (t : Fin (cfgs p).N)
    (Y X : ((cfgs p).win w).block.Idx → Elt F ((cfgs p).win w).elt) : Prop :=
  ∃ Z : Blocks F p, Z w = Y ∧ (∀ w', ((cfgs p).win w').isOut = false → ∃ d, Z w' = fetchedAt V p w' t d) ∧ X = pay p Z w

/-- The proof data of call `p` entered at `V` before the SparseCore call `n`. -/
def rdat (n : ℕ) (V : Valuation τ sig (Elt F)) (p : Fin 3) (c : Dev nD) :
    Pipeline.RDat τ (Elt F) (HIx 1) ℕ UU ℕ (pin (pcfgs (F := F)) adm p) c where
  A w := V (Proc.devRef .tc (arrRef (cfgs p).spec w))
  after w t Y X := LeftAt V p w t Y X
  Φ _ := scopedRest (cfgs p).spec c
  q _ := fullShare
  owed _ := (K (F := F)).Otc c n
  recorded _ := {x | (K (F := F)).lev (T c, x.1) x.2 ≤ 8 * n}

/-- A window whose cuts follow its block index. -/
theorem clip_of_index (p : Fin 3) (w : Fin (cfgs p).W) (h : ((cfgs p).win w).isOut = false) (t t' : Fin (cfgs p).N)
    (he : ((cfgs p).win w).index t = ((cfgs p).win w).index t') :
    ((cfgs p).win w).clip ((cfgs p).grid.coords t) = ((cfgs p).win w).clip ((cfgs p).grid.coords t') := by
  have hc (N : ℕ) (i i' : Fin 2 → ℕ) (e : i = i') : (fun a => Pipeline.Clip.of (i a) ((![6272, N] : Fin 2 → ℕ) a) ((![50000, N] : Fin 2 → ℕ) a))
      = fun a => Pipeline.Clip.of (i' a) ((![6272, N] : Fin 2 → ℕ) a) ((![50000, N] : Fin 2 → ℕ) a) := by rw [e]
  match p, w, h with
  | 0, 0, _ => exact rfl
  | 0, 1, h => exact absurd h (by decide)
  | 1, 0, _ => exact hc 64 _ _ he
  | 1, 1, _ => exact rfl
  | 1, 2, _ => exact rfl
  | 1, 3, _ => exact rfl
  | 1, 4, h => exact absurd h (by decide)
  | 1, 5, h => exact absurd h (by decide)
  | 2, 0, _ => exact hc 64 _ _ he
  | 2, 1, _ => exact rfl
  | 2, 2, _ => exact hc 32 _ _ he
  | 2, 3, _ => exact hc 32 _ _ he
  | 2, 4, _ => exact rfl
  | 2, 5, _ => exact rfl
  | 2, 6, h => exact absurd h (by decide)

/-- A body's input buffer holds, wherever the body is handed it, a fetched block of the array. -/
theorem finds_input [∀ e, Nonempty (Elt F e)] (n : ℕ) (V : Valuation τ sig (Elt F)) (p : Fin 3) (c : Dev nD) (w : Fin (cfgs p).W)
    (h : ((cfgs p).win w).isOut = false) (t : Fin (cfgs p).N) (Y : ((cfgs p).win w).block.Idx → Elt F ((cfgs p).win w).elt)
    (hY : (rdat n V p c).Finds w t Y) : ∃ d, Y = fetchedAt V p w t d :=
  Pipeline.RDat.finds_in_eq_fetched (rdat n V p c) w h (clip_of_index p w h)
    (fun t Y X hX => by
      obtain ⟨Z, hZ, -, hX⟩ := hX
      rw [hX, pay_in p Z w h, hZ]) t Y hY

/-! ## The bodies at the staging buffers of a point -/

/-- The staging buffers of point `t`, each at its contents. -/
def staged (p : Fin 3) (c : Dev nD) (t : Fin (cfgs p).N) (Y : Blocks F p) : sProp 𝕄 :=
  bigSep Finset.univ fun w => owns (c.tc : Thread nD τ) (((cfgs p).win w).stage ((cfgs p).slots t w)) fullShare (Y w)

/-- The body of call `p` at point `t`, from its staging buffers at `Y` to them at `pay p Y`. -/
theorem body_runs [∀ e, Nonempty (Elt F e)] (p : Fin 3) (c : Dev nD) (t : Fin (cfgs p).N) (Y : Blocks F p) :
    staged p c t Y ⊢ wp frame (wpE (defs₀ (F := F)) 𝒱₀ (c.tc : Thread nD τ) none) Set.univ
      (defs₀ (F := F) .tc (cfgs p).body ((cfgs p).bodyArgs t ((cfgs p).slots t))) fun _ => staged p c t (pay p Y) := by
  match p, t, Y with
  | 0, t, Y =>
    unfold staged
    rw [bigSep_W0, bigSep_W0]
    exact edges_body c (grid0.coords t) _ (hstage0_0 ((cfg0.slots t 0).cast nbuf0_0)) _ (hstage0_1 ((cfg0.slots t 1).cast nbuf0_1)) (Y 0) (Y 1)
  | 1, t, Y =>
    unfold staged
    rw [bigSep_W2, bigSep_W2]
    exact dense1_body c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) (Y 0) (Y 1) (Y 2) (Y 3) (Y 4) (Y 5)
  | 2, t, Y =>
    unfold staged
    rw [bigSep_W3, bigSep_W3]
    exact dense2_body c (grid3.coords t) _ (hstage3_0 ((cfg3.slots t 0).cast nbuf3_0)) _ (hstage3_1 ((cfg3.slots t 1).cast nbuf3_1)) _ (hstage3_2 ((cfg3.slots t 2).cast nbuf3_2)) _ (hstage3_3 ((cfg3.slots t 3).cast nbuf3_3)) _ (hstage3_4 ((cfg3.slots t 4).cast nbuf3_4)) _ (hstage3_5 ((cfg3.slots t 5).cast nbuf3_5)) _ (hstage3_6 ((cfg3.slots t 6).cast nbuf3_6)) (Y 0) (Y 1) (Y 2) (Y 3) (Y 4) (Y 5) (Y 6)

/-- The body obligation of call `p`: the body found at contents the library lets it find leaves contents `LeftAt` allows. -/
theorem body_obl [∀ e, Nonempty (Elt F e)] (n : ℕ) (V : Valuation τ sig (Elt F)) (p : Fin 3) (c : Dev nD) :
    (rdat n V p c).BodyObligation (defs₀ (F := F)) 𝒱₀ none Set.univ := by
  intro t Y hY
  have hpost : staged p c t (pay p Y) ⊢ (bigSep Finset.univ fun w => iprop(∃ X, ⌜(rdat n V p c).after w t (Y w) X⌝
      ∗ owns (c.tc : Thread nD τ) (((cfgs p).win w).stage ((cfgs p).slots t w)) fullShare X) : sProp 𝕄) :=
    bigSep_mono fun w _ => by
      show iprop(owns _ _ _ _) ⊢ iprop(_)
      iintro H
      iexists _
      isplitr; swap
      · iexact H
      · ipureintro
        exact ⟨Y, rfl, fun w' hw' => finds_input n V p c w' hw' t (Y w') (hY w'), rfl⟩
  have key : iprop(scopedRest (cfgs p).spec c ∗ (rdat n V p c).owesAt none t.castSucc ∗ staged p c t Y)
      ⊢ wp frame (wpE (defs₀ (F := F)) 𝒱₀ (c.tc : Thread nD τ) none) Set.univ
          (defs₀ (F := F) .tc (cfgs p).body ((cfgs p).bodyArgs t ((cfgs p).slots t))) fun _ =>
        iprop(scopedRest (cfgs p).spec c ∗ (rdat n V p c).owesAt none t.castSucc
          ∗ bigSep Finset.univ fun w => iprop(∃ X, ⌜(rdat n V p c).after w t (Y w) X⌝
            ∗ owns (c.tc : Thread nD τ) (((cfgs p).win w).stage ((cfgs p).slots t w)) fullShare X)) := by
    refine BIBase.Entails.trans ?_ (wp_wand_r frame _ Set.univ (Q := fun _ => staged p c t (pay p Y)))
    iintro ⟨HΦ, HO, HY⟩
    isplitl [HY]
    · iapply (body_runs p c t Y); iexact HY
    iintro %_ HY
    isplitl [HΦ]; · iexact HΦ
    isplitl [HO]; · iexact HO
    iapply hpost; iexact HY
  exact key

/-! ## A call as a region of @main -/

/-- What the TensorCore owes before SparseCore call `n`, its recorded waits below that call's levels. -/
def owesB (c : Dev nD) (n : ℕ) : sProp 𝕄 :=
  iprop(∃ W, ⌜(K (F := F)).WBelow (T c) W (8 * n)⌝ ∗ owes (T c) ((K (F := F)).Otc c n) W)

/-- What call `p` makes of the device's buffers: its arrays what the write-backs of every point leave, the others untouched. -/
def Left (n : ℕ) (V : Valuation τ sig (Elt F)) (p : Fin 3) (c : Dev nD) (V' : Valuation τ sig (Elt F)) : Prop :=
  (∀ w, (rdat n V p c).ArrAt w (cfgs p).N (V' (Proc.devRef .tc (arrRef (cfgs p).spec w))))
    ∧ ∀ b, (∀ w, Proc.devRef .tc (arrRef (cfgs p).spec w) ≠ b) → V' b = V b

theorem kit : (p : Fin 3) → Pipeline.PLaunchFacts (nD := nD) (τ := τ) (pcfgs (F := F)) p
  | 0 => launch0.toP
  | 1 => launch2.toP
  | 2 => launch3.toP

/-- The arrays of call `p`, each at `G`, are its array buffers held at any valuation that has them so. -/
theorem arrays_held (n : ℕ) (V : Valuation τ sig (Elt F)) (p : Fin 3) (c : Dev nD)
    (G : (w : Fin (cfgs p).W) → Buf (Elt F) (((cfgs p).win w).arr.view.loc (c.tc : Thread nD τ))) (W : Valuation τ sig (Elt F))
    (hG : ∀ w, G w = W (Proc.devRef .tc (arrRef (cfgs p).spec w))) :
    ((rdat n V p c).arrays G : sProp 𝕄) = StableHlo.held (T c) (arrRefs (cfgs p).spec) W := by
  rw [Pipeline.RDat.arrays_eq (pcfgs (F := F)) adm (rdat n V) p c (kit (F := F) p).arr_whole (fun w => ite_self _) G]
  unfold StableHlo.held arrRefs
  rw [bigSep_map, show Finset.univ.image (arrRef (pcfgs (F := F) p).spec) = Finset.univ.map ⟨arrRef (pcfgs (F := F) p).spec, (kit (F := F) p).win.arr_inj⟩ from
    (Finset.map_eq_image ⟨arrRef (pcfgs (F := F) p).spec, (kit (F := F) p).win.arr_inj⟩ Finset.univ).symm, bigSep_map]
  exact bigSep_congr fun w _ => by rw [hG]; rfl

/-- The arrays after every write-back, opened: some contents each. -/
theorem arraysAt_open (n : ℕ) (V : Valuation τ sig (Elt F)) (p : Fin 3) (c : Dev nD) (N : ℕ) :
    ((rdat n V p c).arraysAt N : sProp 𝕄)
      ⊢ iprop(∃ G : (w : Fin (cfgs p).W) → Buf (Elt F) (((cfgs p).win w).arr.view.loc (c.tc : Thread nD τ)),
          ⌜∀ w, (rdat n V p c).ArrAt w N (G w)⌝ ∗ (rdat n V p c).arrays G) := by
  unfold Pipeline.RDat.arraysAt Pipeline.RDat.arrays
  iintro H
  ihave H := (bigSep_exists_pi Finset.univ _) $$ H
  icases H with ⟨%G, H⟩
  ihave H := (bigSep_pure_sep Finset.univ _ _) $$ H
  icases H with ⟨%hG, H⟩
  iexists G
  isplitr
  · ipureintro; exact fun w => hG w (Finset.mem_univ w)
  iexact H

/-- Call `p` as a region: entered with the buffers `S` held at `V`, left with them held at what the call makes of `V`. -/
def region [∀ e, Nonempty (Elt F e)] (n : ℕ) (V : Valuation τ sig (Elt F)) (p : Fin 3) (S : Finset (DevRef τ sig))
    (hS : arrRefs (cfgs p).spec ⊆ S) :
    Pipeline.RDat.RegionSeg (pcfgs (F := F)) adm (rdat n V) none (defs₀ (F := F)) 𝒱₀ (K (F := F)).L (K (F := F)).lev p where
  win := (kit (F := F) p).win.to₀
  block_pos := (kit (F := F) p).block_pos
  stage_whole := (kit (F := F) p).stage_whole
  K := PEmpty
  osem k := k.elim
  ho := Pipeline.OwnSemFacts.none _
  hbody c := body_obl n V p c
  hwaits c := Pipeline.RDat.cellsWaits_of_cut (pin (pcfgs (F := F)) adm) (rdat n V) none p c 0 ((K (F := F)).Otc c n) (fun _ => rfl)
    (fun _ _ => Finset.mem_univ _) (fun _ _ => le_rfl)
    (fun g i h => ⟨Finset.mem_univ _, lt_of_lt_of_le (Nat.succ_pos _) (SparseCore.Cfg.lev_of_Otc_pos h)⟩)
  pre c := iprop(StableHlo.held (T c) S V ∗ owesB (F := F) c n)
  post c := iprop(∃ V', ⌜Left n V p c V'⌝ ∗ StableHlo.held (T c) S V' ∗ owesB (F := F) c n)
  X _ := iprop(emp)
  Y _ := iprop(emp)
  Z c := StableHlo.held (T c) (S \ arrRefs (cfgs p).spec) V
  hentry c := by
    rw [Pipeline.ownSems0_none, Pipeline.prefHeld_of_none _ rfl, StableHlo.held_sub_split (T c) hS V,
      show (rdat n V p c).arrays (rdat n V p c).A = StableHlo.held (T c) (arrRefs (cfgs p).spec) V from arrays_held n V p c _ V fun _ => rfl]
    unfold owesB Pipeline.RDat.owesAt owesWithin
    iintro ⟨⟨⟨Ha, Hz⟩, ⟨%W, %hW, HO⟩⟩, -, -⟩
    imodintro
    isplitl [Ha]; · iexact Ha
    isplitr; · iempintro
    isplitl [HO]
    · iexists W; isplitr
      · ipureintro; exact fun x hx => Or.inl (hW x hx)
      iexact HO
    isplitr; · iempintro
    iexact Hz
  hin c := by
    show iprop(emp ∗ _ ∗ scopedRest (cfgs p).spec c) ⊢ scopedRest (cfgs p).spec c
    iintro ⟨-, -, H⟩; iexact H
  hout c := by
    rw [Pipeline.ownSems0_none]
    show scopedRest (cfgs p).spec c ⊢ iprop(emp ∗ emp ∗ scopedRest (cfgs p).spec c)
    iintro H
    isplitr; · iempintro
    isplitr; · iempintro
    iexact H
  hexit c := by
    iintro ⟨Ha, HO, -, Hz⟩
    ihave Ha := (arraysAt_open n V p c _) $$ Ha
    icases Ha with ⟨%G, %hG, Ha⟩
    obtain ⟨V', h1, h2⟩ := Idealize.SL.Util.exists_pi_of_injective (β := fun b : DevRef τ sig => b.ty.Contents (Elt F))
      (g := fun w => Proc.devRef .tc (arrRef (cfgs p).spec w))
      (fun w w' e => (kit (F := F) p).win.arr_inj (Proc.devRef_injective _ e)) G V
    have hr : StableHlo.held (T c) (S \ arrRefs (cfgs p).spec) V = (StableHlo.held (T c) (S \ arrRefs (cfgs p).spec) V' : sProp 𝕄) :=
      StableHlo.held_congr (T c) fun b hb => (h2 b fun w e => (Finset.mem_sdiff.mp hb).2 (by
        rw [← e]
        exact Finset.mem_map.mpr ⟨_, Finset.mem_image.mpr ⟨w, Finset.mem_univ w, rfl⟩, rfl⟩)).symm
    ihave Hz := (Entails.of_eq hr) $$ Hz
    ihave Ha := (Entails.of_eq (arrays_held n V p c G V' fun w => (h1 w).symm)) $$ Ha
    unfold Pipeline.RDat.owesAt owesWithin
    icases HO with ⟨%W, %hW, HO⟩
    imodintro
    iexists V'
    isplitr
    · ipureintro; exact ⟨fun w => (h1 w).symm ▸ hG w, h2⟩
    isplitl [Ha Hz]
    · iapply (Entails.of_eq (StableHlo.held_sub_split (T c) hS V').symm)
      isplitl [Ha]; · iexact Ha
      iexact Hz
    unfold owesB
    iexists W
    isplitr
    · ipureintro
      intro x hx
      rcases hW hx with h | ⟨w, s, rfl⟩
      · exact h
      · exact Nat.zero_le _
    iexact HO

theorem region_pre [∀ e, Nonempty (Elt F e)] (n : ℕ) (V : Valuation τ sig (Elt F)) (p : Fin 3) (S : Finset (DevRef τ sig))
    (hS : arrRefs (cfgs p).spec ⊆ S) (c : Dev nD) :
    (region n V p S hS).pre c = iprop(StableHlo.held (T c) S V ∗ owesB (F := F) c n) := rfl

theorem region_post [∀ e, Nonempty (Elt F e)] (n : ℕ) (V : Valuation τ sig (Elt F)) (p : Fin 3) (S : Finset (DevRef τ sig))
    (hS : arrRefs (cfgs p).spec ⊆ S) (c : Dev nD) :
    (region n V p S hS).post c = iprop(∃ V', ⌜Left n V p c V'⌝ ∗ StableHlo.held (T c) S V' ∗ owesB (F := F) c n) := rfl

/-- Call `p` in @main: from the region boundary, the buffers `S` at `V`, what the TensorCore owes and call `p`'s ghost state, to
    the boundary, the buffers at what the call makes of `V`, and what is owed. -/
theorem region_wp [∀ e, Nonempty (Elt F e)] (n : ℕ) (V : Valuation τ sig (Elt F)) (p : Fin 3) (S : Finset (DevRef τ sig))
    (hS : arrRefs (cfgs p).spec ⊆ S) (c : Dev nD) (Q : PUnit → sProp 𝕄) :
    iprop((∀ V', ⌜Left n V p c V'⌝ -∗ boundary (T c) -∗ StableHlo.held (T c) S V' -∗ owesB (F := F) c n -∗ Q ⟨⟩)
        ∗ boundary (T c) ∗ StableHlo.held (T c) S V ∗ owesB (F := F) c n ∗ levAts (K (F := F)).L (K (F := F)).lev
        ∗ cellsGhost (pin (pcfgs (F := F)) adm) EP p c ∗ toksInit (pin (pcfgs (F := F)) adm) EP p c)
      ⊢ wp frame (wpE ((K (F := F)).defs (D (F := F))) 𝒱 (T c) none) Set.univ
          (Prog.lift (.customCall (SparseCore.inner (Pipeline.entry p)) ())) Q := by
  refine BIBase.Entails.trans ?_ ((K (F := F)).wp_liftProg (D (F := F)) 𝒱 (T c) Set.univ none (.op (.customCall (Pipeline.entry p) ()) .ret) Q)
  refine BIBase.Entails.trans ?_ (Pipeline.RDat.RegionSeg.wp (pcfgs (F := F)) adm (rdat n V) none ((kit (F := F) p).cellOf_inj adm) EP (defs₀ (F := F)) 𝒱₀
    (K (F := F)).L (K (F := F)).lev (region n V p S hS) c none (fun u h => nomatch h) .ret Q)
  rw [region_pre, region_post]
  iintro ⟨HQ, Hb, HV, HO, Hl, Hg, Ht⟩
  isplitl [HQ]
  · iintro ⟨Hb, ⟨%V', %hV, HV, HO⟩⟩
    rw [wp_ret]
    imodintro
    iapply HQ $$ [] [Hb] [HV] [HO]
    · ipureintro; exact hV
    · iexact Hb
    · iexact HV
    iexact HO
  isplitl [Hb]; · iexact Hb
  isplitl [HV HO]
  · isplitl [HV] <;> iassumption
  isplitl [Hl]; · iexact Hl
  isplitl [Hg] <;> iassumption

end Cert.Proof.Run
-- ==== Proof.Segs.lean ====
/-
  @main between its calls. The four straight lines of host operations as lists, @main as those lines and the calls in order, the
  padded row that the first TensorCore call leaves for the SparseCore as a function of the edge array, the bounds of its words,
  and the chain of valuations of a device's buffers that a run goes through.
-/
module

public import proofs.«01_k».proof.Proof.Region
public import Idealize.ShloMosaic.Lib.Pipeline.Frame
public import Idealize.ShloMosaic.Lib.Pipeline.ArrRel
public import Idealize.ShloMosaic.Lib.PointwiseCore

@[expose] public section

noncomputable section

namespace Cert.Proof.Run

open Cert.KernelIdeal Cert.KernelIdeal.Gen
open Idealize.ShloMosaic
open Idealize.SL Idealize.SL.RA Idealize.SL.BI
open Idealize.SL.Sem
open Idealize.ShloMosaic.Rounds
open Idealize.ShloMosaic.Tactic
open Idealize.ShloMosaic.StableHlo
open Idealize.ShloMosaic.SparseCore (S V T)
open Idealize.ShloMosaic.SparseCore.Cfg (HIx)
open Idealize.ShloMosaic.Pipeline (arrRef arrRefs pin ucRefs sub_ucRefs)

variable {F : FTy → Type} [FloatOps F]

/-! ## The straight lines -/

/-- Two embeddings side by side. -/
def cat64 (a b : (⟨S50000x32, .f32⟩ : BufTy).Contents (Elt F)) : (⟨S50000x64, .f32⟩ : BufTy).Contents (Elt F) :=
  concatenate S50000x64 1 [⟨S50000x32, a⟩, ⟨S50000x32, b⟩] concatenates_S50000x32_S50000x32_S50000x64_d1

/-- The operations before the first TensorCore call: the two rows of the edge array, flattened, and its second row again as the call reads it. -/
def opsA : List (HloOp τ sig (Elt F)) :=
  [ StableHlo.unary main_arg4 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 (rfl : (.i32 : EltTy) = .i32) shapeCasts_S1x800000_S800000,
    StableHlo.unary main_arg4 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 (rfl : (.i32 : EltTy) = .i32) shapeCasts_S1x800000_S800000,
    StableHlo.unary main_arg4 main_v4 ((extractStridedSlice S1x800000 ![1, 0] · slices_S2x800000_S1x800000_1_0) : (⟨S2x800000, .i32⟩ : BufTy).Contents (Elt F) → (⟨S1x800000, .i32⟩ : BufTy).Contents (Elt F)) ]

set_option maxRecDepth 8192 in
/-- Each reads and writes the TensorCore's tensor values only. -/
theorem opsA_sub : ∀ op ∈ opsA (F := F), op.bufs ⊆ ucRefs τ sig := fun op h =>
  sub_ucRefs op (List.forall_iff_forall_mem.mp (show (opsA (F := F)).Forall fun op => op.bufs ⊆ tcRefs τ sig from
    ⟨unary_bufs_sub .., reshape_bufs_sub .., unary_bufs_sub .., reshape_bufs_sub .., unary_bufs_sub ..⟩) op h)

/-- Each determines its result. -/
theorem opsA_fresh : ∀ op ∈ opsA (F := F), op.fresh = ∅ := by
  intro _ h; (repeat (cases h with | head => rfl | tail _ h => ?_)); exact nomatch h

/-- Between the first TensorCore call and the SparseCore call: the padded row, flattened. -/
def opsR : List (HloOp τ sig (Elt F)) :=
  [ StableHlo.reshape main_v5 main_v6 (rfl : (.i32 : EltTy) = .i32) shapeCasts_S8x100352_S802816 ]

/-- Each reads and writes the TensorCore's tensor values only. -/
theorem opsR_sub : ∀ op ∈ opsR (F := F), op.bufs ⊆ ucRefs τ sig := fun op h =>
  sub_ucRefs op (by cases List.mem_singleton.mp h; exact reshape_bufs_sub ..)

/-- Each determines its result. -/
theorem opsR_fresh : ∀ op ∈ opsR (F := F), op.fresh = ∅ := by
  intro _ h; (repeat (cases h with | head => rfl | tail _ h => ?_)); exact nomatch h

/-- Between the SparseCore call and the second TensorCore call: the counters as rows, the two embeddings side by side, the first layer's gather and scatter, its bias as a row. -/
def opsB : List (HloOp τ sig (Elt F)) :=
  [ StableHlo.reshape main_v7 main_v8 (rfl : (.f32 : EltTy) = .f32) shapeCasts_S1605632_S32x50176,
    StableHlo.binary main_arg0 main_arg1 main_v9 (cat64 : (⟨S50000x32, .f32⟩ : BufTy).Contents (Elt F) → (⟨S50000x32, .f32⟩ : BufTy).Contents (Elt F) → (⟨S50000x64, .f32⟩ : BufTy).Contents (Elt F)),
    StableHlo.nullary main_cst (constant S_ .f32 0x00000000#32),
    StableHlo.unary main_cst main_v10 (broadcastInDim S50000x64 ![] bcast_S_S50000x64 : (⟨S_, .f32⟩ : BufTy).Contents (Elt F) → (⟨S50000x64, .f32⟩ : BufTy).Contents (Elt F)),
    StableHlo.nullary main_c (constantI S_ 32 0#32),
    StableHlo.unary main_c main_v11 (broadcastInDim S800000 ![] bcast_S_S800000 : (⟨S_, .i32⟩ : BufTy).Contents (Elt F) → (⟨S800000, .i32⟩ : BufTy).Contents (Elt F)),
    StableHlo.binary main_v1 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v13 (broadcastInDim S800000 ![] bcast_S_S800000 : (⟨S_, .i32⟩ : BufTy).Contents (Elt F) → (⟨S800000, .i32⟩ : BufTy).Contents (Elt F)),
    StableHlo.binary main_v1 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_v9 main_v16 main_v17 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_1 (constantI S_ 32 0#32),
    StableHlo.unary main_c_1 main_v18 (broadcastInDim S800000 ![] bcast_S_S800000 : (⟨S_, .i32⟩ : BufTy).Contents (Elt F) → (⟨S800000, .i32⟩ : BufTy).Contents (Elt F)),
    StableHlo.binary main_v3 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v20 (broadcastInDim S800000 ![] bcast_S_S800000 : (⟨S_, .i32⟩ : BufTy).Contents (Elt F) → (⟨S800000, .i32⟩ : BufTy).Contents (Elt F)),
    StableHlo.binary main_v3 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.ternary main_v10 main_v23 main_v17 main_v24 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.reshape main_arg6 main_v25 (rfl : (.f32 : EltTy) = .f32) shapeCasts_S64_S1x64 ]

set_option maxRecDepth 8192 in
/-- Each reads and writes the TensorCore's tensor values only. -/
theorem opsB_sub : ∀ op ∈ opsB (F := F), op.bufs ⊆ ucRefs τ sig := fun op h =>
  sub_ucRefs op (List.forall_iff_forall_mem.mp (show (opsB (F := F)).Forall fun op => op.bufs ⊆ tcRefs τ sig from
    ⟨reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., reshape_bufs_sub ..⟩) op h)

/-- Each determines its result. -/
theorem opsB_fresh : ∀ op ∈ opsB (F := F), op.fresh = ∅ := by
  intro _ h; (repeat (cases h with | head => rfl | tail _ h => ?_)); exact nomatch h

/-- Between the second TensorCore call and the third: the second layer's gather and scatter, its bias as a row. -/
def opsC : List (HloOp τ sig (Elt F)) :=
  [ StableHlo.binary main_v26_0 main_v26_1 main_v27 (cat64 : (⟨S50000x32, .f32⟩ : BufTy).Contents (Elt F) → (⟨S50000x32, .f32⟩ : BufTy).Contents (Elt F) → (⟨S50000x64, .f32⟩ : BufTy).Contents (Elt F)),
    StableHlo.nullary main_cst_3 (constant S_ .f32 0x00000000#32),
    StableHlo.unary main_cst_3 main_v28 (broadcastInDim S50000x64 ![] bcast_S_S50000x64 : (⟨S_, .f32⟩ : BufTy).Contents (Elt F) → (⟨S50000x64, .f32⟩ : BufTy).Contents (Elt F)),
    StableHlo.nullary main_c_4 (constantI S_ 32 0#32),
    StableHlo.unary main_c_4 main_v29 (broadcastInDim S800000 ![] bcast_S_S800000 : (⟨S_, .i32⟩ : BufTy).Contents (Elt F) → (⟨S800000, .i32⟩ : BufTy).Contents (Elt F)),
    StableHlo.binary main_v1 main_v29 main_v30 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v31 (broadcastInDim S800000 ![] bcast_S_S800000 : (⟨S_, .i32⟩ : BufTy).Contents (Elt F) → (⟨S800000, .i32⟩ : BufTy).Contents (Elt F)),
    StableHlo.binary main_v1 main_v31 main_v32 (addi : (⟨S800000, .i32⟩ : BufTy).Contents (Elt F) → (⟨S800000, .i32⟩ : BufTy).Contents (Elt F) → (⟨S800000, .i32⟩ : BufTy).Contents (Elt F)),
    StableHlo.ternary main_v30 main_v32 main_v1 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v33 main_v34 (broadcastInDim S800000x1 ![0] bcast_S800000_S800000x1_0 : (⟨S800000, .i32⟩ : BufTy).Contents (Elt F) → (⟨S800000x1, .i32⟩ : BufTy).Contents (Elt F)),
    StableHlo.binary main_v27 main_v34 main_v35 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_6 (constantI S_ 32 0#32),
    StableHlo.unary main_c_6 main_v36 (broadcastInDim S800000 ![] bcast_S_S800000 : (⟨S_, .i32⟩ : BufTy).Contents (Elt F) → (⟨S800000, .i32⟩ : BufTy).Contents (Elt F)),
    StableHlo.binary main_v3 main_v36 main_v37 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v38 (broadcastInDim S800000 ![] bcast_S_S800000 : (⟨S_, .i32⟩ : BufTy).Contents (Elt F) → (⟨S800000, .i32⟩ : BufTy).Contents (Elt F)),
    StableHlo.binary main_v3 main_v38 main_v39 (addi : (⟨S800000, .i32⟩ : BufTy).Contents (Elt F) → (⟨S800000, .i32⟩ : BufTy).Contents (Elt F) → (⟨S800000, .i32⟩ : BufTy).Contents (Elt F)),
    StableHlo.ternary main_v37 main_v39 main_v3 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v40 main_v41 (broadcastInDim S800000x1 ![0] bcast_S800000_S800000x1_0 : (⟨S800000, .i32⟩ : BufTy).Contents (Elt F) → (⟨S800000x1, .i32⟩ : BufTy).Contents (Elt F)),
    StableHlo.ternary main_v28 main_v41 main_v35 main_v42 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.reshape main_arg8 main_v43 (rfl : (.f32 : EltTy) = .f32) shapeCasts_S64_S1x64 ]

set_option maxRecDepth 8192 in
/-- Each reads and writes the TensorCore's tensor values only. -/
theorem opsC_sub : ∀ op ∈ opsC (F := F), op.bufs ⊆ ucRefs τ sig := fun op h =>
  sub_ucRefs op (List.forall_iff_forall_mem.mp (show (opsC (F := F)).Forall fun op => op.bufs ⊆ tcRefs τ sig from
    ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., reshape_bufs_sub ..⟩) op h)

/-- Each determines its result. -/
theorem opsC_fresh : ∀ op ∈ opsC (F := F), op.fresh = ∅ := by
  intro _ h; (repeat (cases h with | head => rfl | tail _ h => ?_)); exact nomatch h

set_option maxRecDepth 65536 in
/-- @main is the four lines with the calls between them. -/
theorem main_segs (d : Dev nD) : main (F := F) d = (seq opsA >>= fun _ =>
    Prog.lift (.customCall (SparseCore.inner (Pipeline.entry 0)) ()) >>= fun _ => seq opsR >>= fun _ =>
    sc.run d 0 >>= fun _ => seq opsB >>= fun _ =>
    Prog.lift (.customCall (SparseCore.inner (Pipeline.entry 1)) ()) >>= fun _ => seq opsC >>= fun _ =>
    Prog.lift (.customCall (SparseCore.inner (Pipeline.entry 2)) ()) >>= fun _ => pure ⟨⟩) := rfl

/-! ## The padded row -/

/-- A tensor value of @main as a buffer of the device. -/
abbrev dref (r : Ref sig .tc) : DevRef τ sig := Proc.devRef .tc r

/-- The padded row of destination nodes that the SparseCore reads, from the edge array. -/
def flat (e : IVec S2x800000 32) : IVec S802816 32 :=
  shapeCast S802816 (k0_pay1 (F := F) (extractStridedSlice S1x800000 ![1, 0] e slices_S2x800000_S1x800000_1_0)) shapeCasts_S8x100352_S802816

/-- The first TensorCore call leaves in its result the payload of its operand. -/
theorem edges_val [∀ e, Nonempty (Elt F e)] (n : ℕ) (V V' : Valuation τ sig (Elt F)) (c : Dev nD) (h : Left n V 0 c V') :
    V' (dref main_v5) = k0_pay1 (F := F) (V (dref main_v4)) := by
  have hw : ((cfgs 0).win 1).WholeAt t0_0 := by decide
  have hw0 : ∀ a, ((cfgs 0).win 0).index t0_0 a = 0
      ∧ ((cfgs 0).win 0).xsize ((cfgs 0).grid.coords t0_0) a = ((cfgs 0).win 0).shape.size a := by decide
  have h0 : (rdat n V 0 c).ArrAt 1 (cfgs 0).N (V' (dref main_v5)) := h.1 1
  obtain ⟨X, hX, hG⟩ := h0.emb_eq_of_wholeAt hw
  obtain ⟨Y, -, Z, -, hin, rfl⟩ := hX
  obtain ⟨d, hd⟩ := hin 0 rfl
  have hz : Z 0 = V (dref main_v4) := by
    rw [hd]
    funext j
    let y : (((cfgs 0).win 0).xblock ((cfgs 0).grid.coords t0_0)).Idx := fun a => ⟨(j a).val, lt_of_lt_of_eq (j a).isLt (hw0 a).2.symm⟩
    refine (((cfgs 0).win 0).fill_xinj ((cfgs 0).grid.coords t0_0) d _ y).trans ?_
    show V (dref main_v4) ((((cfgs 0).win 0).blk t0_0).view.emb y) = V (dref main_v4) j
    congr 1
    funext a
    apply Fin.ext
    exact Pipeline.Window.rect_emb_val_of_index_zero ((cfgs 0).win 0) t0_0 a (hw0 a).1 y
  funext j
  refine (hG j).trans ?_
  show k0_pay1 (Z 0) j = _
  rw [hz]

/-- The word at a place past the edges: one of the eight spare nodes. -/
theorem pad_word (i : ℕ) (h : 800000 ≤ i) (h' : i < 802816) :
    IntOp.addi (50000#32) (IntOp.andi (IntOp.addi (800000#32) (BitVec.ofNat 32 (i - 800000))) 7#32) = BitVec.ofNat 32 (50000 + i % 8) := by
  apply BitVec.eq_of_toNat_eq
  show (50000#32 + ((800000#32 + BitVec.ofNat 32 (i - 800000)) &&& 7#32)).toNat = _
  rw [BitVec.toNat_add, BitVec.toNat_and, BitVec.toNat_add, show (7#32).toNat = 2 ^ 3 - 1 from rfl,
    Nat.and_two_pow_sub_one_eq_mod, BitVec.toNat_ofNat, BitVec.toNat_ofNat, BitVec.toNat_ofNat, BitVec.toNat_ofNat]
  omega

set_option maxRecDepth 16384 in
set_option maxHeartbeats 4000000 in
/-- The padded row at a place: the edge's destination there, past the edges one of the eight spare nodes. -/
theorem flat_val (e : IVec S2x800000 32) (i : Fin 802816) :
    flat (F := F) e (ix1 i) = if h : i.val < 800000 then e (ix2 1 ⟨i, h⟩) else BitVec.ofNat 32 (50000 + i.val % 8) := by
  pointwise [flat, k0_pay1]
  have hi := i.isLt
  have key (a b : Fin 2) (p q : Fin 800000) (h1 : a.val = b.val) (h2 : p.val = q.val) : e (ix2 a p) = e (ix2 b q) := by
    rw [Fin.ext h1, Fin.ext h2]
  have hr : i.val / 100352 = 0 ∨ i.val / 100352 = 1 ∨ i.val / 100352 = 2 ∨ i.val / 100352 = 3 ∨ i.val / 100352 = 4
      ∨ i.val / 100352 = 5 ∨ i.val / 100352 = 6 ∨ i.val / 100352 = 7 := by omega
  rcases hr with hr | hr | hr | hr | hr | hr | hr | hr
  · have hl : i.val < 800000 := by omega
    have hs : 0 + i.val % 100352 = i.val := by omega
    simp only [hr, Nat.reduceSub, Nat.reduceLT, ↓reduceDIte, hl]
    exact key _ _ _ _ rfl ((Nat.zero_add _).symm.trans hs)
  · have hl : i.val < 800000 := by omega
    have hs : 100352 + i.val % 100352 = i.val := by omega
    simp only [hr, Nat.reduceSub, Nat.reduceLT, ↓reduceDIte, hl]
    exact key _ _ _ _ rfl hs
  · have hl : i.val < 800000 := by omega
    have hs : 200704 + i.val % 100352 = i.val := by omega
    simp only [hr, Nat.reduceSub, Nat.reduceLT, ↓reduceDIte, hl]
    exact key _ _ _ _ rfl hs
  · have hl : i.val < 800000 := by omega
    have hs : 301056 + i.val % 100352 = i.val := by omega
    simp only [hr, Nat.reduceSub, Nat.reduceLT, ↓reduceDIte, hl]
    exact key _ _ _ _ rfl hs
  · have hl : i.val < 800000 := by omega
    have hs : 401408 + i.val % 100352 = i.val := by omega
    simp only [hr, Nat.reduceSub, Nat.reduceLT, ↓reduceDIte, hl]
    exact key _ _ _ _ rfl hs
  · have hl : i.val < 800000 := by omega
    have hs : 501760 + i.val % 100352 = i.val := by omega
    simp only [hr, Nat.reduceSub, Nat.reduceLT, ↓reduceDIte, hl]
    exact key _ _ _ _ rfl hs
  · have hl : i.val < 800000 := by omega
    have hs : 602112 + i.val % 100352 = i.val := by omega
    simp only [hr, Nat.reduceSub, Nat.reduceLT, ↓reduceDIte, hl]
    exact key _ _ _ _ rfl hs
  · by_cases c : i.val % 100352 < 97536
    · have hl : i.val < 800000 := by omega
      have hs : 702464 + i.val % 100352 = i.val := by omega
      simp only [hr, Nat.reduceSub, Nat.reduceLT, ↓reduceDIte, hl, c]
      exact key _ _ _ _ rfl hs
    · have hl : ¬ i.val < 800000 := by omega
      have hs : i.val % 100352 - 97536 = i.val - 800000 := by omega
      simp only [hr, Nat.reduceSub, Nat.reduceLT, ↓reduceDIte, hl, c, hs]
      exact pad_word i.val (by omega) hi

/-- A word between 0 and 49999, as the precondition says it. -/
theorem word_lt (v : BitVec 32) (e : IntOp.andi (IntOp.cmpi .sge v 0#32) (IntOp.cmpi .sle v 49999#32) = 1#1) : v.toNat < 50000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

/-- The words of the padded row name one of the 50176 counters. -/
theorem flat_lt (e : IVec S2x800000 32) (he : ∀ i, (e i).toNat < 50000) (j : S802816.Idx) : (flat (F := F) e j).toNat < 50176 := by
  obtain ⟨i, rfl⟩ : ∃ i : Fin 802816, j = ix1 i := ⟨j 0, eq_ix1 j⟩
  rw [flat_val]
  split_ifs with h
  · exact lt_trans (he _) (by omega)
  · rw [BitVec.toNat_ofNat]; omega

end Cert.Proof.Run

end
-- ==== Proof.Counts.lean ====
/-
  The degree counts over the reals. A trip of the count loop adds to each node's counter the number of its occurrences among the
  trip's sixteen words: the counter is written at the last of them only, and the running count there is the whole number. So a
  tile's histogram counts the tile's words, and the thirty-two histograms together count the padded row's, in which a node below
  50000 occurs as often as it is an edge's destination.
-/
module

public import proofs.«01_k».proof.Proof.Segs
public import Idealize.ShloMosaic.Lib.Pointwise
public import Mathlib.Data.Nat.Count

@[expose] public section

noncomputable section

namespace Cert.Proof.Val

open Cert.KernelIdeal Cert.KernelIdeal.Gen Cert.Proof.Run
open Idealize.ShloMosaic

/-! ## The scatter-add of a vector of lanes -/

/-- A lane's index, by its number. -/
theorem ofLane_ix1 {n : ℕ} (k : Fin n) : Shape.ofLane (d := ![n]) k = ix1 k := by
  funext a; obtain rfl : a = 0 := Subsingleton.elim _ _; rfl

/-- A masked scatter-add at one place: what was there, and each set lane's value whose index names the place. -/
theorem storeIdx_add {n N : ℕ} (g : Vec Ideal ⟨1, ![N]⟩ .f32) (v : IVec ⟨1, ![n]⟩ 32) (u : Vec Ideal ⟨1, ![n]⟩ .f32)
    (mask : IVec ⟨1, ![n]⟩ 1) (h : ∀ a x, ((![v] : Fin 1 → IVec ⟨1, ![n]⟩ 32) a x).toNat < (⟨1, ![N]⟩ : Shape).size a) (j : Fin N) :
    (storeIdx (F := Ideal) (d := ![n]) g ![v] u mask true h (ix1 j) : EReal)
      = g (ix1 j) + ∑ k : Fin n, if mask (ix1 k) = 1 ∧ (v (ix1 k)).toNat = j.val then u (ix1 k) else (0 : EReal) := by
  let st : Vec Ideal ⟨1, ![N]⟩ .f32 → Fin n → Vec Ideal ⟨1, ![N]⟩ .f32 := fun g k =>
    if mask (Shape.ofLane (d := ![n]) k) = 1 then
      fun j => if (∀ a, (j a).val = (idxAt (s := ⟨1, ![N]⟩) ![v] h (Shape.ofLane (d := ![n]) k) a).val) then
        Elt.idxAdd (F := Ideal) .f32 (g (idxAt (s := ⟨1, ![N]⟩) ![v] h (Shape.ofLane (d := ![n]) k))) (u (Shape.ofLane (d := ![n]) k)) else g j
    else g
  have step (f : Vec Ideal ⟨1, ![N]⟩ .f32) (k : Fin n) :
      (st f k (ix1 j) : EReal) = f (ix1 j) + if mask (ix1 k) = 1 ∧ (v (ix1 k)).toNat = j.val then u (ix1 k) else (0 : EReal) := by
    show ((if mask (Shape.ofLane (d := ![n]) k) = 1 then _ else f : Vec Ideal ⟨1, ![N]⟩ .f32) (ix1 j) : EReal) = _
    rw [ofLane_ix1]
    by_cases hm : mask (ix1 k) = 1
    · by_cases hv : (v (ix1 k)).toNat = j.val
      · have hi : idxAt (s := ⟨1, ![N]⟩) ![v] h (ix1 k) = ix1 j := by
          funext a; obtain rfl : a = 0 := Subsingleton.elim _ _; exact Fin.ext hv
        rw [if_pos hm, hi, if_pos fun _ => rfl, if_pos ⟨hm, hv⟩]
        rfl
      · rw [if_pos hm, if_neg fun q => hv (q 0).symm, if_neg fun q => hv q.2, add_zero]
    · rw [if_neg hm, if_neg fun q => hm q.1, add_zero]
  have key (l : List (Fin n)) : ∀ f : Vec Ideal ⟨1, ![N]⟩ .f32,
      (l.foldl st f (ix1 j) : EReal)
        = f (ix1 j) + (l.map fun k => if mask (ix1 k) = 1 ∧ (v (ix1 k)).toNat = j.val then u (ix1 k) else (0 : EReal)).sum := by
    induction l with
    | nil => intro f; rw [List.foldl_nil, List.map_nil, List.sum_nil, add_zero]
    | cons k l ih => intro f; rw [List.foldl_cons, ih, List.map_cons, List.sum_cons, ← add_assoc, step]
  rw [Fin.sum_univ_def]
  refine Eq.trans ?_ (key (List.finRange n) g)
  unfold storeIdx
  refine congrFun (congrArg (fun q => List.foldl q g (List.finRange n)) ?_) (ix1 j)
  funext f k
  dsimp only [st]
  congr 1
  funext j'
  congr 1

/-! ## One trip of the count loop -/

/-- Summed over the lanes that hold a node's last occurrence, the running counts are the number of its occurrences. -/
theorem last_counts (v : IVec S16 32) (n : ℕ) :
    (∑ k : Fin 16, if k1_pay3 (F := Ideal) v (ix1 k) = 1 ∧ (v (ix1 k)).toNat = n then k1_pay4 (F := Ideal) v (ix1 k) else (0 : EReal))
      = ((Finset.univ.filter fun k : Fin 16 => (v (ix1 k)).toNat = n).card : ℝ) := by
  have hpos (k : Fin 16) : (S16.rowMajor (ix1 k)).val = k.val := Shape.rowMajor_val_one _
  have hmask (k : Fin 16) : k1_pay3 (F := Ideal) v (ix1 k) = 1 ↔ ∀ j : Fin 16, k < j → v (ix1 j) ≠ v (ix1 k) := by
    unfold k1_pay3 scanCount k1_pay2 broadcast
    dsimp only
    constructor
    · intro h j hj he
      by_cases c : (1#1 : BitVec 1) = 1 ∧ ∀ j, (S16.rowMajor (ix1 k)).val < (S16.rowMajor j).val → ¬((1#1 : BitVec 1) = 1 ∧ v j = v (ix1 k))
      · exact c.2 (ix1 j) (by rw [hpos, hpos]; exact hj) ⟨rfl, he⟩
      · rw [if_neg c] at h; exact absurd h (by decide)
    · intro h
      rw [if_pos]
      refine ⟨rfl, fun j hj hv => ?_⟩
      obtain ⟨i, rfl⟩ : ∃ i : Fin 16, j = ix1 i := ⟨j 0, eq_ix1 j⟩
      rw [hpos, hpos] at hj
      exact h i hj hv.2
  have hcnt (k : Fin 16) : k1_pay4 (F := Ideal) v (ix1 k)
      = (((Finset.univ.filter fun j : Fin 16 => j ≤ k ∧ v (ix1 j) = v (ix1 k)).card : ℝ) : EReal) := by
    have hc : (Finset.univ.filter fun j : S16.Idx => (S16.rowMajor j).val ≤ (S16.rowMajor (ix1 k)).val ∧ (1#1 : BitVec 1) = 1 ∧ v j = v (ix1 k)).card
        = (Finset.univ.filter fun j : Fin 16 => j ≤ k ∧ v (ix1 j) = v (ix1 k)).card := by
      refine Finset.card_bij' (fun j _ => j 0) (fun j _ => ix1 j) ?_ ?_ ?_ ?_
      · intro j hj
        have hj := (Finset.mem_filter.1 hj).2
        obtain ⟨i, rfl⟩ : ∃ i : Fin 16, j = ix1 i := ⟨j 0, eq_ix1 j⟩
        rw [hpos, hpos] at hj
        exact Finset.mem_filter.2 ⟨Finset.mem_univ _, hj.1, hj.2.2⟩
      · intro j hj
        have hj := (Finset.mem_filter.1 hj).2
        refine Finset.mem_filter.2 ⟨Finset.mem_univ _, ?_, rfl, hj.2⟩
        rw [hpos, hpos]; exact hj.1
      · intro j _; exact (eq_ix1 j).symm
      · intro j _; rfl
    have hle : (Finset.univ.filter fun j : Fin 16 => j ≤ k ∧ v (ix1 j) = v (ix1 k)).card ≤ 16 :=
      (Finset.card_le_univ _).trans (by simp)
    unfold k1_pay4 sitofp scanCount k1_pay2 broadcast
    dsimp only
    rw [if_pos (show (1#1 : BitVec 1) = 1 from rfl), hc]
    generalize (Finset.univ.filter fun j : Fin 16 => j ≤ k ∧ v (ix1 j) = v (ix1 k)).card = c at hle
    show (((BitVec.ofNat 32 c).toInt : ℝ) : EReal) = _
    rw [BitVec.toInt_eq_toNat_of_lt (by rw [BitVec.toNat_ofNat]; omega), BitVec.toNat_ofNat, Nat.mod_eq_of_lt (by omega)]
    norm_cast
  set A := Finset.univ.filter fun k : Fin 16 => (v (ix1 k)).toNat = n with hA
  rcases A.eq_empty_or_nonempty with h0 | h0
  · rw [h0, Finset.card_empty, Finset.sum_eq_zero]
    · norm_cast
    · intro k _
      rw [if_neg]
      intro q
      have : k ∈ A := Finset.mem_filter.2 ⟨Finset.mem_univ _, q.2⟩
      rw [h0] at this; exact absurd this (Finset.notMem_empty _)
  · have hk0 := (Finset.mem_filter.1 (A.max'_mem h0)).2
    set k0 := A.max' h0 with hk
    have hmem (j : Fin 16) : v (ix1 j) = v (ix1 k0) ↔ j ∈ A := by
      rw [hA, Finset.mem_filter]
      constructor
      · intro e; exact ⟨Finset.mem_univ _, by rw [e]; exact hk0⟩
      · intro e; exact BitVec.eq_of_toNat_eq (e.2.trans hk0.symm)
    rw [Finset.sum_eq_single k0]
    · rw [if_pos ⟨(hmask k0).2 fun j hj he => absurd (A.le_max' j ((hmem j).1 he)) (not_le.2 hj), hk0⟩, hcnt]
      congr 3
      ext j
      rw [Finset.mem_filter, hmem]
      constructor
      · exact fun q => q.2.2
      · exact fun q => ⟨Finset.mem_univ _, A.le_max' j q, q⟩
    · intro k _ hne
      rw [if_neg]
      intro q
      have hkA : k ∈ A := Finset.mem_filter.2 ⟨Finset.mem_univ _, q.2⟩
      exact (hmask k).1 q.1 k0 (lt_of_le_of_ne (A.le_max' k hkA) hne) ((hmem k).2 hkA).symm
    · intro h; exact absurd (Finset.mem_univ _) h

/-- One trip adds to each counter the number of its node's occurrences among the trip's words. -/
theorem bump_at (v : Vec Ideal S16 .i32) (g : Vec Ideal S50176 .f32) (hv : ∀ x, (v x : BitVec 32).toNat < 50176) (j : Fin 50176) :
    (bump (F := Ideal) v g (ix1 j) : EReal)
      = g (ix1 j) + ((Finset.univ.filter fun k : Fin 16 => (v (ix1 k) : BitVec 32).toNat = j.val).card : ℝ) := by
  have hc : k1_chk1 v := fun a x => by
    obtain rfl : a = 0 := Subsingleton.elim _ _
    exact hv x
  unfold bump
  rw [dif_pos hc, ← last_counts]
  exact storeIdx_add g v _ _ _ j

/-! ## A tile's histogram -/

/-- Counting below `n` and counting in `Fin n` are the same. -/
theorem card_count (n : ℕ) (p : ℕ → Prop) [DecidablePred p] :
    (Finset.univ.filter fun i : Fin n => p i.val).card = Nat.count p n := by
  rw [Nat.count_eq_card_filter_range]
  refine Finset.card_bij (fun i _ => i.val) ?_ ?_ ?_
  · intro i hi
    exact Finset.mem_filter.2 ⟨Finset.mem_range.2 i.isLt, (Finset.mem_filter.1 hi).2⟩
  · intro i _ j _ e; exact Fin.ext e
  · intro q hq
    have hq := Finset.mem_filter.1 hq
    exact ⟨⟨q, Finset.mem_range.1 hq.1⟩, Finset.mem_filter.2 ⟨Finset.mem_univ _, hq.2⟩, rfl⟩

/-- After `k` trips a counter holds the number of its node's occurrences among the first `16 k` words. -/
theorem hist_at (dst : Vec Ideal S25088 .i32) (hd : ∀ x, (dst x : BitVec 32).toNat < 50176) (k : ℕ) (j : Fin 50176) :
    (histAt (F := Ideal) dst k (ix1 j) : EReal)
      = ((Nat.count (fun q => (dst (lane 25088 q) : BitVec 32).toNat = j.val) (16 * k) : ℕ) : ℝ) := by
  induction k with
  | zero =>
    show (Scalar.ofBits (F := Ideal) .f32 0x00000000#32 : EReal) = _
    rw [Nat.mul_zero, Nat.count_zero, Nat.cast_zero]
    pointwise []
    exact EReal.coe_zero.symm
  | succ k ih =>
    show (bump (F := Ideal) (chunk dst k) (histAt dst k) (ix1 j) : EReal) = _
    rw [bump_at (chunk dst k) _ (fun x => hd _), ih, Nat.mul_succ, Nat.count_add]
    have e : (Finset.univ.filter fun x : Fin 16 => (chunk (F := Ideal) dst k (ix1 x) : BitVec 32).toNat = j.val).card
        = Nat.count (fun x => (dst (lane 25088 (16 * k + x)) : BitVec 32).toNat = j.val) 16 :=
      card_count 16 fun x => (dst (lane 25088 (16 * k + x)) : BitVec 32).toNat = j.val
    rw [e, Nat.cast_add, EReal.coe_add]

/-! ## The table of histograms -/

/-- Counting in equal stretches, one after the other, is counting in all. -/
theorem count_stretches (p : ℕ → Prop) [DecidablePred p] (L W : ℕ) :
    ∑ w : Fin W, Nat.count (fun q => p (L * w.val + q)) L = Nat.count p (L * W) := by
  induction W with
  | zero => simp
  | succ W ih => rw [Fin.sum_univ_castSucc, Nat.mul_succ, Nat.count_add, ← ih]; rfl

/-- Counting does not see the predicate past the end. -/
theorem count_congr (p q : ℕ → Prop) [DecidablePred p] [DecidablePred q] (n : ℕ) (h : ∀ i < n, p i ↔ q i) :
    Nat.count p n = Nat.count q n := by
  rw [Nat.count_eq_card_filter_range, Nat.count_eq_card_filter_range]
  exact congrArg Finset.card (Finset.filter_congr fun i hi => h i (Finset.mem_range.1 hi))

/-- A node's counters, summed over the tiles, are the number of its occurrences in the padded row. -/
theorem table_at (a : Vec Ideal S802816 .i32) (ha : ∀ x, (a x : BitVec 32).toNat < 50176) (n : Fin 50176) :
    (∑ w : Fin 32, (shapeCast S32x50176 (countsOf (F := Ideal) a) shapeCasts_S1605632_S32x50176 (ix2 w n) : EReal))
      = ((Nat.count (fun q => (a (lane 802816 q) : BitVec 32).toNat = n.val) 802816 : ℕ) : ℝ) := by
  have hn := n.isLt
  have e (w : Fin 32) : (shapeCast S32x50176 (countsOf (F := Ideal) a) shapeCasts_S1605632_S32x50176 (ix2 w n) : EReal)
      = ((Nat.count (fun q => (a (lane 802816 (25088 * w.val + q)) : BitVec 32).toNat = n.val) 25088 : ℕ) : ℝ) := by
    have hw := w.isLt
    pointwise []
    unfold countsOf
    have h1 : lane 50176 (w.val * 50176 + n.val) = ix1 n := by
      funext b; obtain rfl : b = 0 := Subsingleton.elim _ _
      exact Fin.ext ((lane_val _ _).trans (by show _ = n.val; omega))
    have h2 : (w.val * 50176 + n.val) / 50176 = w.val := by omega
    show (histAt (F := Ideal) (sliceOf a ((w.val * 50176 + n.val) / 50176)) 1568 (lane 50176 (w.val * 50176 + n.val)) : EReal) = _
    rw [h1, h2, hist_at (sliceOf a w.val) (fun x => ha _)]
    refine congrArg (fun t : ℕ => ((t : ℝ) : EReal)) (count_congr (fun q => (sliceOf (F := Ideal) a w.val (lane 25088 q) : BitVec 32).toNat = n.val)
      (fun q => (a (lane 802816 (25088 * w.val + q)) : BitVec 32).toNat = n.val) 25088 fun q hq => ?_)
    show (a (lane 802816 (25088 * w.val + q % 25088)) : BitVec 32).toNat = n.val ↔ _
    rw [Nat.mod_eq_of_lt hq]
  rw [Finset.sum_congr rfl fun w _ => e w, ← count_stretches _ 25088 32]
  push_cast
  rfl

/-- In the padded row a node occurs as often as it is an edge's destination. -/
theorem degree (e : IVec S2x800000 32) (n : Fin 50000) :
    Nat.count (fun q => (flat (F := Ideal) e (lane 802816 q) : BitVec 32).toNat = n.val) 802816
      = (Finset.univ.filter fun i : Fin 800000 => (e (ix2 1 i)).toNat = n.val).card := by
  have hl (q : ℕ) (hq : q < 802816) : lane 802816 q = ix1 ⟨q, hq⟩ := by
    funext b; obtain rfl : b = 0 := Subsingleton.elim _ _
    exact Fin.ext ((lane_val _ _).trans (Nat.mod_eq_of_lt hq))
  have h0 : Nat.count (fun q => (flat (F := Ideal) e (lane 802816 (800000 + q)) : BitVec 32).toNat = n.val) 2816 = 0 := by
    rw [count_congr _ (fun _ => False) _ fun q hq => ?_]
    · exact Nat.count_false _
    · rw [hl _ (by omega), flat_val, dif_neg (by show ¬ (800000 + q < 800000); omega), BitVec.toNat_ofNat]
      have := n.isLt
      constructor
      · intro h; dsimp only at h; omega
      · exact False.elim
  refine (Nat.count_add (fun q => (flat (F := Ideal) e (lane 802816 q) : BitVec 32).toNat = n.val) 800000 2816).trans ?_
  rw [h0, Nat.add_zero]
  have := card_count 800000 (fun q => (flat (F := Ideal) e (lane 802816 q) : BitVec 32).toNat = n.val)
  refine this.symm.trans (congrArg Finset.card (Finset.filter_congr fun i _ => ?_))
  rw [hl _ (by have := i.isLt; omega), flat_val, dif_pos i.isLt]

end Cert.Proof.Val

end
-- ==== Proof.Dense.lean ====
/-
  What the two dense TensorCore calls leave in their results over the extended reals, element by element. Each of their eight points
  works on a block of 6272 nodes; the last block runs past the 50000 nodes, and what its rows past them hold is not read by any row
  that is written back.
-/
module

public import proofs.«01_k».proof.Proof.Segs
public import Idealize.ShloMosaic.Lib.Pointwise

@[expose] public section

noncomputable section

namespace Cert.Proof.Val

open Cert.KernelIdeal Cert.KernelIdeal.Gen Cert.Proof.Run
open Idealize.ShloMosaic
open Idealize.SL.Sem
open Idealize.ShloMosaic.Pipeline (arrRef)

/-! ## The bodies' payloads at an element -/

/-- One row through the linear map: the row's sums times the reciprocal of the counters' sum (of one where that is less), times
    the matrix, plus the bias. -/
def dot {N : ℕ} (s : Fin 64 → EReal) (cnt : Fin N → EReal) (W : Fin 64 → EReal) (b : EReal) : EReal :=
  (∑ k : Fin 64, s k * Ideal.div 1 (max (∑ w : Fin N, cnt w) 1) * W k) + b

set_option maxRecDepth 16384 in
/-- An element of the first dense call's block before it is halved. -/
theorem k2_at (v0 : Vec Ideal S32x6272 .f32) (v8 : Vec Ideal S6272x64 .f32) (v12 : Vec Ideal S64x64 .f32) (v14 : Vec Ideal S1x64 .f32)
    (r : Fin 6272) (q : Fin 64) :
    (k2_pay1 (F := Ideal) v0 v8 v12 v14 (ix2 r q) : EReal)
      = max (dot (fun k => v8 (ix2 r k)) (fun w : Fin 32 => v0 (ix2 w r)) (fun k => v12 (ix2 k q)) (v14 (ix2 0 q))) 0 := by
  pointwise! [k2_pay1, dot]

set_option maxRecDepth 16384 in
/-- An element of the second dense call's block. -/
theorem k3_at (v0 : Vec Ideal S32x6272 .f32) (v8 : Vec Ideal S6272x64 .f32) (v12 : Vec Ideal S64x64 .f32) (v14 : Vec Ideal S1x64 .f32)
    (v19 v22 : Vec Ideal S6272x32 .f32) (r : Fin 6272) (q : Fin 32) :
    (k3_pay1 (F := Ideal) v0 v8 v12 v14 v19 v22 (ix2 r q) : EReal)
      = dot (fun k => v8 (ix2 r k)) (fun w : Fin 32 => v0 (ix2 w r)) (fun k => v12 (ix2 k (Fin.castAdd 32 q))) (v14 (ix2 0 (Fin.castAdd 32 q)))
          * v19 (ix2 r q)
        + dot (fun k => v8 (ix2 r k)) (fun w : Fin 32 => v0 (ix2 w r)) (fun k => v12 (ix2 k (Fin.natAdd 32 q))) (v14 (ix2 0 (Fin.natAdd 32 q)))
          * v22 (ix2 r q) := by
  pointwise! [k3_pay1, dot]

/-! ## Where a window's blocks lie -/

/-- The blocks of a window lie one after the other along axis `k`, 6272 places each, the last cut at the array's end; on every
    other axis (on all of them, where there is no axis `k`) a block is as long as the array. -/
def Along (p : Fin 3) (w : Fin (cfgs p).W) (k : ℕ) : Prop :=
  ∀ (t : Fin (cfgs p).N) (a : Fin ((cfgs p).win w).shape.rank),
    ((cfgs p).win w).kind.off (((cfgs p).win w).index t a) (((cfgs p).win w).size a) = (if a.val = k then 6272 * t.val else 0)
      ∧ ((cfgs p).win w).xsize ((cfgs p).grid.coords t) a
          = (if a.val = k then min 6272 (((cfgs p).win w).shape.size a - 6272 * t.val) else ((cfgs p).win w).size a)
      ∧ (a.val = k → ((cfgs p).win w).size a = 6272)

/-- The array's place `i` is place `x` of the block at point `t`. -/
def At (p : Fin 3) (w : Fin (cfgs p).W) (k : ℕ) (t : Fin (cfgs p).N) (x : ((cfgs p).win w).block.Idx)
    (i : ((cfgs p).win w).shape.Idx) : Prop :=
  ∀ a : Fin ((cfgs p).win w).shape.rank, (i a).val = (if a.val = k then 6272 * t.val else 0) + (x a).val

/-- A block's element sits at its place in the array. -/
theorem emb_at {p : Fin 3} {w : Fin (cfgs p).W} {k : ℕ} (hA : Along p w k) (t : Fin (cfgs p).N)
    (y : (((cfgs p).win w).xblock ((cfgs p).grid.coords t)).Idx) :
    At p w k t (((cfgs p).win w).xinj ((cfgs p).grid.coords t) y) ((((cfgs p).win w).rect t).emb y) := by
  intro a
  refine (((cfgs p).win w).rect_emb_val_off t y a).trans ?_
  rw [(hA t a).1]

/-- A place of the array that is a block's place is one that the block's copy moves. -/
theorem exists_at {p : Fin 3} {w : Fin (cfgs p).W} {k : ℕ} (hA : Along p w k) {t : Fin (cfgs p).N} {x : ((cfgs p).win w).block.Idx}
    {i : ((cfgs p).win w).shape.Idx} (hx : At p w k t x i) :
    ∃ y : (((cfgs p).win w).xblock ((cfgs p).grid.coords t)).Idx,
      ((cfgs p).win w).xinj ((cfgs p).grid.coords t) y = x ∧ (((cfgs p).win w).rect t).emb y = i := by
  have hy (a : Fin ((cfgs p).win w).shape.rank) : (x a).val < ((cfgs p).win w).xsize ((cfgs p).grid.coords t) a := by
    have hxa := hx a
    have hia := (i a).isLt
    obtain ⟨-, hz, hs⟩ := hA t a
    have hb : (x a).val < ((cfgs p).win w).size a := (x a).isLt
    rw [hz]
    by_cases h : a.val = k
    · rw [hs h] at hb
      rw [if_pos h] at hxa ⊢
      omega
    · rw [if_neg h]; exact hb
  refine ⟨fun a => ⟨(x a).val, hy a⟩, rfl, funext fun a => Fin.ext ?_⟩
  exact (emb_at hA t _ a).trans (hx a).symm

/-- A fetched block at a place of the array: the array's element there. -/
theorem fetched_at {p : Fin 3} {w : Fin (cfgs p).W} {k : ℕ} (hA : Along p w k) (V : Valuation τ sig (Elt Ideal)) (t : Fin (cfgs p).N)
    (d : ((cfgs p).win w).block.Idx → Elt Ideal ((cfgs p).win w).elt) (x : ((cfgs p).win w).block.Idx)
    (i : ((cfgs p).win w).shape.Idx) (hx : At p w k t x i) :
    fetchedAt V p w t d x = ((cfgs p).win w).arr.view.read (Elt Ideal) (V (Proc.devRef .tc (arrRef (cfgs p).spec w))) i := by
  obtain ⟨y, rfl, rfl⟩ := exists_at hA hx
  exact ((cfgs p).win w).fill_xinj ((cfgs p).grid.coords t) d _ y

/-- `At` in two dimensions, axis by axis. -/
theorem pair_at {A B C D : ℕ} (k o : ℕ) (x : Fin A) (y : Fin B) (u : Fin C) (v : Fin D) (h0 : u.val = (if 0 = k then o else 0) + x.val)
    (h1 : v.val = (if 1 = k then o else 0) + y.val) (a : Fin 2) : (ix2 u v a).val = (if a.val = k then o else 0) + (ix2 x y a).val := by
  match a with
  | 0 => exact h0
  | 1 => exact h1

/-- The first dense call's windows: on the sums along the rows, on the counters along the columns, on the matrix and the bias the whole
    array, on the two results along the rows. -/
theorem along1 : Along 1 0 0 ∧ Along 1 1 1 ∧ Along 1 2 2 ∧ Along 1 3 2 ∧ Along 1 4 0 ∧ Along 1 5 0 := by
  unfold Along
  decide +kernel

/-- The second dense call's windows: on the sums along the rows, on the counters along the columns, on the two embeddings along the
    rows, on the matrix and the bias the whole array, on the result along the rows. -/
theorem along2 : Along 2 0 0 ∧ Along 2 1 1 ∧ Along 2 2 0 ∧ Along 2 3 0 ∧ Along 2 4 2 ∧ Along 2 5 2 ∧ Along 2 6 0 := by
  unfold Along
  decide +kernel

/-! ## What the calls leave -/

/-- Node `i`'s row through the linear map, at output `q`: the sums, the counters, the matrix and the bias as whole arrays. -/
def dense (s : Vec Ideal S50000x64 .f32) (cnt : Vec Ideal S32x50176 .f32) (W : Vec Ideal S64x64 .f32) (b : Vec Ideal S1x64 .f32)
    (i : Fin 50000) (q : Fin 64) : EReal :=
  dot (fun k => s (ix2 i k)) (fun w : Fin 32 => cnt (ix2 w ⟨i.val, by omega⟩)) (fun k => W (ix2 k q)) (b (ix2 0 q))

/-- An output window's array after the run, when every point's block is, at each of its places in the array, what the array is to hold there. -/
theorem out_val (n : ℕ) (V V' : Valuation τ sig (Elt Ideal)) (p : Fin 3) (c : Dev nD) (h : Left n V p c V') (w : Fin (cfgs p).W) (k : ℕ)
    (hA : Along p w k) (hcov : ((cfgs p).win w).Covers) (harr : ((cfgs p).win w).arr.IsWhole)
    (G : Buf (Elt Ideal) (((cfgs p).win w).arr.view.loc (c.tc : Thread nD τ)))
    (hG : ∀ (t : Fin (cfgs p).N) (Z : Blocks Ideal p),
      (∀ w', ((cfgs p).win w').isOut = false → ∃ d, Z w' = fetchedAt V p w' t d) →
      ∀ (x : ((cfgs p).win w).block.Idx) (i : ((cfgs p).win w).shape.Idx), At p w k t x i →
        _root_.cast (congrArg (Elt Ideal) ((cfgs p).win w).arr.view.elt_eq.symm) (pay p Z w x) = G (((cfgs p).win w).arr.view.emb i)) :
    V' (dref (arrRef (cfgs p).spec w)) = G := by
  have h0 : (rdat n V p c).ArrAt w (cfgs p).N (V' (dref (arrRef (cfgs p).spec w))) := h.1 w
  obtain ⟨X, hX, hE⟩ := h0.exists_exact
  have e := hE (Function.update (fun _ _ _ => Classical.arbitrary _) w X) fun u _ _ => by rw [Function.update_self]
  refine e.trans (Pipeline.Dat.arrAt_eq_of_covers _ w G hcov (fun t hf y => ?_) harr)
  rw [Pipeline.RDat.withAfter_after, Function.update_self]
  obtain ⟨Y, -, Z, -, hin, hZ⟩ := hX t t.isLt hf
  rw [hZ]
  exact hG t Z hin _ _ (emb_at hA t y)

/-- An element of the first dense call's block, the inputs as fetched: row `r` of the block at point `t` is node `n`'s. -/
theorem block1 (V : Valuation τ sig (Elt Ideal)) (t : Fin 8) (Z : Blocks Ideal 1)
    (hin : ∀ w', ((cfgs 1).win w').isOut = false → ∃ d, Z w' = fetchedAt V 1 w' t d) (r : Fin 6272) (q : Fin 64) (n : Fin 50000)
    (hn : n.val = 6272 * t.val + r.val) :
    (k2_pay1 (F := Ideal) (Z 1) (Z 0) (Z 2) (Z 3) (ix2 r q) : EReal) = max (dense (V (dref main_v24)) (V (dref main_v8)) (V (dref main_arg5)) (V (dref main_v25)) n q) 0 := by
  obtain ⟨d0, h0⟩ := hin 0 rfl
  obtain ⟨d1, h1⟩ := hin 1 rfl
  obtain ⟨d2, h2⟩ := hin 2 rfl
  obtain ⟨d3, h3⟩ := hin 3 rfl
  obtain ⟨a0, a1, a2, a3, -⟩ := along1
  refine (k2_at (Z 1) (Z 0) (Z 2) (Z 3) r q).trans ?_
  unfold dense
  rw [h0, h1, h2, h3]
  congr 2
  · funext k; exact fetched_at a0 V t d0 (ix2 r k) (ix2 n k) (pair_at 0 _ r k n k hn (Nat.zero_add _).symm)
  · funext w; exact fetched_at a1 V t d1 (ix2 w r) (ix2 w ⟨n.val, by omega⟩) (pair_at 1 _ w r w _ (Nat.zero_add _).symm hn)
  · funext k; exact fetched_at a2 V t d2 (ix2 k q) (ix2 k q) (pair_at 2 _ k q k q (Nat.zero_add _).symm (Nat.zero_add _).symm)
  · exact fetched_at a3 V t d3 (ix2 0 q) (ix2 0 q) (pair_at 2 _ 0 q 0 q rfl (Nat.zero_add _).symm)

/-- The first dense call leaves in its first result the rows' first 32 outputs, in its second the rows' last 32, each at least zero. -/
theorem dense1_val (n : ℕ) (V V' : Valuation τ sig (Elt Ideal)) (c : Dev nD) (h : Left n V 1 c V') :
    (V' (dref main_v26_0) = fun x => max (dense (V (dref main_v24)) (V (dref main_v8)) (V (dref main_arg5)) (V (dref main_v25)) (x 0) (Fin.castAdd 32 (x 1))) 0)
      ∧ V' (dref main_v26_1) = fun x => max (dense (V (dref main_v24)) (V (dref main_v8)) (V (dref main_arg5)) (V (dref main_v25)) (x 0) (Fin.natAdd 32 (x 1))) 0 := by
  obtain ⟨-, -, -, -, a4, a5⟩ := along1
  constructor
  · refine out_val n V V' 1 c h 4 0 a4 (by decide +kernel) (Memref.isWhole_whole _) _ fun t Z hin x i hx => ?_
    obtain ⟨r, j, rfl⟩ : ∃ (r : Fin 6272) (j : Fin 32), x = ix2 r j := ⟨x 0, x 1, eq_ix2 x⟩
    have hj : i 1 = j := Fin.ext ((hx 1).trans (Nat.zero_add _))
    refine Eq.trans ?_ ((block1 V t Z hin r (Fin.castAdd 32 j) (i 0) (hx 0)).trans (by rw [← hj]; rfl))
    show (k2_pay2 (F := Ideal) (Z 1) (Z 0) (Z 2) (Z 3) (ix2 r j) : EReal) = _
    pointwise [k2_pay2]
    rfl
  · refine out_val n V V' 1 c h 5 0 a5 (by decide +kernel) (Memref.isWhole_whole _) _ fun t Z hin x i hx => ?_
    obtain ⟨r, j, rfl⟩ : ∃ (r : Fin 6272) (j : Fin 32), x = ix2 r j := ⟨x 0, x 1, eq_ix2 x⟩
    have hj : i 1 = j := Fin.ext ((hx 1).trans (Nat.zero_add _))
    refine Eq.trans ?_ ((block1 V t Z hin r (Fin.natAdd 32 j) (i 0) (hx 0)).trans (by rw [← hj]; rfl))
    show (k2_pay3 (F := Ideal) (Z 1) (Z 0) (Z 2) (Z 3) (ix2 r j) : EReal) = _
    pointwise [k2_pay3]
    rfl

/-- An element of the second dense call's block, the inputs as fetched. -/
theorem block2 (V : Valuation τ sig (Elt Ideal)) (t : Fin 8) (Z : Blocks Ideal 2)
    (hin : ∀ w', ((cfgs 2).win w').isOut = false → ∃ d, Z w' = fetchedAt V 2 w' t d) (r : Fin 6272) (j : Fin 32) (n : Fin 50000)
    (hn : n.val = 6272 * t.val + r.val) :
    (k3_pay1 (F := Ideal) (Z 1) (Z 0) (Z 4) (Z 5) (Z 2) (Z 3) (ix2 r j) : EReal)
      = dense (V (dref main_v42)) (V (dref main_v8)) (V (dref main_arg7)) (V (dref main_v43)) n (Fin.castAdd 32 j) * V (dref main_arg2) (ix2 n j)
        + dense (V (dref main_v42)) (V (dref main_v8)) (V (dref main_arg7)) (V (dref main_v43)) n (Fin.natAdd 32 j) * V (dref main_arg3) (ix2 n j) := by
  obtain ⟨d0, h0⟩ := hin 0 rfl
  obtain ⟨d1, h1⟩ := hin 1 rfl
  obtain ⟨d2, h2⟩ := hin 2 rfl
  obtain ⟨d3, h3⟩ := hin 3 rfl
  obtain ⟨d4, h4⟩ := hin 4 rfl
  obtain ⟨d5, h5⟩ := hin 5 rfl
  obtain ⟨a0, a1, a2, a3, a4, a5, -⟩ := along2
  refine (k3_at (Z 1) (Z 0) (Z 4) (Z 5) (Z 2) (Z 3) r j).trans ?_
  have hd (q : Fin 64) : dot (fun k => Z 0 (ix2 r k)) (fun w : Fin 32 => Z 1 (ix2 w r)) (fun k => Z 4 (ix2 k q)) (Z 5 (ix2 0 q))
      = dense (V (dref main_v42)) (V (dref main_v8)) (V (dref main_arg7)) (V (dref main_v43)) n q := by
    unfold dense
    rw [h0, h1, h4, h5]
    congr 1
    · funext k; exact fetched_at a0 V t d0 (ix2 r k) (ix2 n k) (pair_at 0 _ r k n k hn (Nat.zero_add _).symm)
    · funext w; exact fetched_at a1 V t d1 (ix2 w r) (ix2 w ⟨n.val, by omega⟩) (pair_at 1 _ w r w _ (Nat.zero_add _).symm hn)
    · funext k; exact fetched_at a4 V t d4 (ix2 k q) (ix2 k q) (pair_at 2 _ k q k q (Nat.zero_add _).symm (Nat.zero_add _).symm)
    · exact fetched_at a5 V t d5 (ix2 0 q) (ix2 0 q) (pair_at 2 _ 0 q 0 q rfl (Nat.zero_add _).symm)
  refine congr (congrArg _ (congr (congrArg _ (hd _)) ?_)) (congr (congrArg _ (hd _)) ?_)
  · rw [h2]; exact fetched_at a2 V t d2 (ix2 r j) (ix2 n j) (pair_at 0 _ r j n j hn (Nat.zero_add _).symm)
  · rw [h3]; exact fetched_at a3 V t d3 (ix2 r j) (ix2 n j) (pair_at 0 _ r j n j hn (Nat.zero_add _).symm)

/-- The second dense call leaves in its result the rows' first 32 outputs times one embedding plus the last 32 times the other. -/
theorem dense2_val (n : ℕ) (V V' : Valuation τ sig (Elt Ideal)) (c : Dev nD) (h : Left n V 2 c V') :
    V' (dref main_v44) = fun x : S50000x32.Idx =>
      (dense (V (dref main_v42)) (V (dref main_v8)) (V (dref main_arg7)) (V (dref main_v43)) (x 0) (Fin.castAdd 32 (x 1)) * V (dref main_arg2) x
        + dense (V (dref main_v42)) (V (dref main_v8)) (V (dref main_arg7)) (V (dref main_v43)) (x 0) (Fin.natAdd 32 (x 1)) * V (dref main_arg3) x : EReal) := by
  refine out_val n V V' 2 c h 6 0 along2.2.2.2.2.2.2 (by decide +kernel) (Memref.isWhole_whole _) _ fun t Z hin x i hx => ?_
  obtain ⟨r, j, rfl⟩ : ∃ (r : Fin 6272) (j : Fin 32), x = ix2 r j := ⟨x 0, x 1, eq_ix2 x⟩
  obtain ⟨u, v, rfl⟩ : ∃ (u : Fin 50000) (v : Fin 32), i = ix2 u v := ⟨i 0, i 1, eq_ix2 i⟩
  obtain rfl : v = j := Fin.ext ((hx 1).trans (Nat.zero_add _))
  exact block2 V t Z hin r v u (hx 0)

end Cert.Proof.Val

end
-- ==== Proof.Layer.lean ====
/-
  The reference's value, layer by layer: a layer gathers the rows of its input at the edges' sources, adds them up at the edges'
  destinations, divides each sum by the node's number of incoming edges (by one where it has none), and applies a linear map. Over the
  extended reals the number of incoming edges is a count of the edges, and each element of a layer is a sum over its 64 inputs.
-/
module

public import proofs.«01_k».proof.Proof.Gen.ReferenceIdeal.Run
public import Idealize.ShloMosaic.Lib.Pointwise
public import Idealize.ShloMosaic.Lib.Routing.OpsPair

@[expose] public section

noncomputable section

namespace Cert.Proof.Val

open Cert.ReferenceIdeal Cert.ReferenceIdeal.Gen
open Idealize.ShloMosaic Idealize.ShloMosaic.TcCoe

variable {F : FTy → Type} [FloatOps F]

/-! ## The layers -/

/-- A row of node names as the indices of a gather or a scatter: a negative one counts from the end. -/
def names (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The edges' sources. -/
def srcRow (e : IVec S2x800000 32) : IVec S800000 32 :=
  shapeCast _ (extractStridedSlice S1x800000 ![0, 0] e slices_S2x800000_S1x800000_0_0) shapeCasts_S1x800000_S800000

/-- The edges' destinations. -/
def dstRow (e : IVec S2x800000 32) : IVec S800000 32 :=
  shapeCast _ (extractStridedSlice S1x800000 ![1, 0] e slices_S2x800000_S1x800000_1_0) shapeCasts_S1x800000_S800000

/-- At each node, the sum of the rows of `H` at the sources `s` of the edges whose destination `d` it is. -/
def sums (s d : IVec S800000 32) (H : FVec F S50000x64 .f32) : FVec F S50000x64 .f32 :=
  Host.scatterAdd scatter_S50000x64_S800000x1_S800000x64_1_0_0_1
    (broadcastInDim S50000x64 ![] bcast_S_S50000x64 (constant S_ .f32 0x00000000#32)) (names d)
    (Host.gather gather_S50000x64_S800000x1_S800000x64_1_0_n_n_0_1_164 H (names s))

/-- The same with the two rows of the edge array. -/
def agg (e : IVec S2x800000 32) (H : FVec F S50000x64 .f32) : FVec F S50000x64 .f32 := sums (srcRow e) (dstRow e) H

/-- At each node, a one for each of its incoming edges. -/
def deg (e : IVec S2x800000 32) : FVec F S50000 .f32 :=
  Host.scatterAdd scatter_S50000_S800000x1_S800000_n_0_0_1
    (broadcastInDim S50000 ![] bcast_S_S50000 (constant S_ .f32 0x00000000#32)) (names (dstRow e))
    (broadcastInDim S800000 ![] bcast_S_S800000 (constant S_ .f32 0x3F800000#32))

/-- One layer before its activation: the mean over the incoming edges, through a linear map. -/
def layer (e : IVec S2x800000 32) (H : FVec F S50000x64 .f32) (W : FVec F S64x64 .f32) (b : FVec F S64 .f32) : FVec F S50000x64 .f32 :=
  addf (Host.dotGeneral dot_S50000x64_S64x64_S50000x64_1_0_0_1_n_n none
      (Host.divf (agg e H) (broadcastInDim S50000x64 ![0, 1] bcast_S50000x1_S50000x64_0_1 (broadcastInDim S50000x1 ![0] bcast_S50000_S50000x1_0
        (maximumf (deg e) (broadcastInDim S50000 ![] bcast_S_S50000 (constant S_ .f32 0x3F800000#32)))))) W)
    (broadcastInDim S50000x64 ![0, 1] bcast_S1x64_S50000x64_0_1 (broadcastInDim S1x64 ![1] bcast_S64_S1x64_1 b))

/-- Two embeddings side by side. -/
def beside (a b : FVec F S50000x32 .f32) : FVec F S50000x64 .f32 :=
  concatenate S50000x64 1 [⟨S50000x32, a⟩, ⟨S50000x32, b⟩] concatenates_S50000x32_S50000x32_S50000x64_d1

/-- The first layer after its activation. -/
def hidden (a0 a1 : FVec F S50000x32 .f32) (e : IVec S2x800000 32) (W1 : FVec F S64x64 .f32) (b1 : FVec F S64 .f32) : FVec F S50000x64 .f32 :=
  maximumf (layer e (beside a0 a1) W1 b1) (broadcastInDim S50000x64 ![] bcast_S_S50000x64 (constant S_ .f32 0x00000000#32))

/-- The two halves of the second layer's output, each times its embedding, added. -/
def pair (x : FVec F S50000x64 .f32) (a2 a3 : FVec F S50000x32 .f32) : FVec F S50000x32 .f32 :=
  addf (mulf (extractStridedSlice S50000x32 ![0, 0] x slices_S50000x64_S50000x32_0_0) a2)
    (mulf (extractStridedSlice S50000x32 ![0, 32] x slices_S50000x64_S50000x32_0_32) a3)

set_option maxRecDepth 16384 in
/-- The reference's result is the two layers, paired. -/
theorem res_layers (m : (ℓ : Loc nD τ sig) → Buf (Elt F) ℓ) (c : Dev nD) :
    Value.res_out0 m c
      = pair (layer (m ((c.tc : Thread nD τ).loc main_arg4))
          (hidden (m ((c.tc : Thread nD τ).loc main_arg0)) (m ((c.tc : Thread nD τ).loc main_arg1)) (m ((c.tc : Thread nD τ).loc main_arg4))
            (m ((c.tc : Thread nD τ).loc main_arg5)) (m ((c.tc : Thread nD τ).loc main_arg6)))
          (m ((c.tc : Thread nD τ).loc main_arg7)) (m ((c.tc : Thread nD τ).loc main_arg8)))
        (m ((c.tc : Thread nD τ).loc main_arg2)) (m ((c.tc : Thread nD τ).loc main_arg3)) := rfl

/-! ## Their elements over the extended reals -/

/-- Each edge's destination, when it names a node, is its name in the scatter. -/
theorem names_dst (e : IVec S2x800000 32) (he : ∀ i, (e i).toNat < 50000) (k : Fin 800000) : names (dstRow e) (ix2 k 0) = e (ix2 1 k) := by
  pointwise [names, dstRow]
  exact Routing.wrap_of_lt _ _ (lt_trans (he _) (by decide))

/-- The number of a node's incoming edges. -/
theorem deg_at (e : IVec S2x800000 32) (he : ∀ i, (e i).toNat < 50000) (n : Fin 50000) :
    (deg (F := Ideal) e (ix1 n) : EReal) = ((Finset.univ.filter fun i : Fin 800000 => (e (ix2 1 i)).toNat = n.val).card : ℝ) := by
  have h1 (j : S800000.Idx) : (broadcastInDim S800000 ![] bcast_S_S800000 (constant (F := Ideal) S_ .f32 0x3F800000#32) j : EReal) = 1 := by
    pointwise []
  have h0 : (broadcastInDim S50000 ![] bcast_S_S50000 (constant (F := Ideal) S_ .f32 0x00000000#32) (ix1 n) : EReal) = 0 := by
    pointwise []
  have hl (k : Fin 800000) : scatter_S50000_S800000x1_S800000_n_0_0_1.resultIdx? (ix1 k) (names (dstRow e)) = some (ix1 n)
      ↔ (e (ix2 1 k)).toNat = n.val := by
    refine (Routing.resultIdx?_ix1 (N := 50000) scatter_S50000_S800000x1_S800000_n_0_0_1 (ix1 k) (names (dstRow e)) n).trans ?_
    have hw : scatter_S50000_S800000x1_S800000_n_0_0_1.window (ix1 k) 0 = 0 := rfl
    have hs : scatter_S50000_S800000x1_S800000_n_0_0_1.start (ix1 k) (names (dstRow e)) 0 = (names (dstRow e) (ix2 k 0)).toInt := by
      refine congrArg (fun i => (names (dstRow e) i).toInt) ?_
      funext b
      match b with
      | ⟨0, _⟩ => rfl
      | ⟨1, _⟩ => rfl
    rw [hw, hs, names_dst e he, BitVec.toInt_eq_toNat_of_lt (by have := he (ix2 1 k); omega)]
    simp
  show (_ : EReal) + ∑ j ∈ Finset.univ.filter (fun j => scatter_S50000_S800000x1_S800000_n_0_0_1.resultIdx? j (names (dstRow e)) = some (ix1 n)), _ = _
  rw [h0, zero_add, Finset.sum_congr rfl fun j _ => h1 j, Finset.sum_const]
  have hc : (Finset.univ.filter fun j : S800000.Idx => scatter_S50000_S800000x1_S800000_n_0_0_1.resultIdx? j (names (dstRow e)) = some (ix1 n)).card
      = (Finset.univ.filter fun i : Fin 800000 => (e (ix2 1 i)).toNat = n.val).card := by
    refine Finset.card_bij' (fun j _ => j 0) (fun k _ => ix1 k) ?_ ?_ ?_ ?_
    · intro j hj
      have hj := (Finset.mem_filter.1 hj).2
      obtain ⟨k, rfl⟩ : ∃ k : Fin 800000, j = ix1 k := ⟨j 0, eq_ix1 j⟩
      exact Finset.mem_filter.2 ⟨Finset.mem_univ _, (hl k).1 hj⟩
    · intro k hk
      exact Finset.mem_filter.2 ⟨Finset.mem_univ _, (hl k).2 (Finset.mem_filter.1 hk).2⟩
    · intro j _; exact (eq_ix1 j).symm
    · intro k _; rfl
  rw [hc, nsmul_one]
  generalize (Finset.univ.filter fun i : Fin 800000 => (e (ix2 1 i)).toNat = n.val).card = N
  rfl

set_option maxRecDepth 16384 in
/-- An element of a layer. -/
theorem layer_at (e : IVec S2x800000 32) (H : FVec Ideal S50000x64 .f32) (W : FVec Ideal S64x64 .f32) (b : FVec Ideal S64 .f32)
    (n : Fin 50000) (j : Fin 64) :
    (layer (F := Ideal) e H W b (ix2 n j) : EReal)
      = (∑ k : Fin 64, Ideal.div (agg (F := Ideal) e H (ix2 n k)) (max (deg (F := Ideal) e (ix1 n)) 1) * W (ix2 k j)) + b (ix1 j) := by
  pointwise! [layer]

end Cert.Proof.Val

end
-- ==== Proof.Tile.lean ====
/-
  One tile of the SparseCore call: from its slice of the flat row of destinations and its slice of the table (at any contents),
  the tile leaves its histogram in its slice of the table. Stated once, at symbolic coordinates.
-/
module

public import proofs.«01_k».proof.Proof.Names
public import Idealize.ShloMosaic.Lib.Writes

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "dV" => (Memref.whole Cert.KernelIdeal.main_v6_scv : Memref Cert.KernelIdeal.sig Kind.scVector Space.hbm Cert.KernelIdeal.S802816 EltTy.i32)
local notation "oV" => (Memref.whole Cert.KernelIdeal.main_v7_scv : Memref Cert.KernelIdeal.sig Kind.scVector Space.hbm Cert.KernelIdeal.S1605632 EltTy.f32)
local notation "sD" => (Memref.whole Cert.KernelIdeal.cc1_scratch0 : Memref Cert.KernelIdeal.sig Kind.scVector Space.vmem Cert.KernelIdeal.S25088 EltTy.i32)
local notation "sH" => (Memref.whole Cert.KernelIdeal.cc1_scratch1 : Memref Cert.KernelIdeal.sig Kind.scVector Space.vmem Cert.KernelIdeal.S50176 EltTy.f32)

/-- The flat row of destinations and the table of counts, as locations of device `d`. -/
abbrev dLoc (d : Dev nD) : Loc nD τ sig := (SparseCore.T d).loc main_v6
abbrev oLoc (d : Dev nD) : Loc nD τ sig := (SparseCore.T d).loc main_v7

section Tile

variable (d : Dev nD) (L : grid1.Coords)

abbrev cV (L : grid1.Coords) : Fin τ.nSC := (L 0).castLE hcore1
abbrev jV (L : grid1.Coords) : Fin τ.nSub := (L 1).castLE hsub1

/-- The tile's number: row `wid` of the table is its. -/
def wid (L : grid1.Coords) : ℕ := 2 * (L 1).val + (L 0).val

theorem wid_lt : wid L < 32 := by
  have h0 : (L 0).val < 2 := (L 0).isLt
  have h1 : (L 1).val < 16 := (L 1).isLt
  unfold wid; omega

/-- The tile's slices, as the body spells them. -/
abbrev dR (L : grid1.Coords) : Rect S802816 := Rect.unit (s := S802816) (k1_off1 L) S25088.size (k1_off1_inb L)
abbrev oR (L : grid1.Coords) : Rect S1605632 := Rect.unit (s := S1605632) (k1_off4 L) S50176.size (k1_off4_inb L)
abbrev dK (L : grid1.Coords) : Memref sig .scVector .hbm S25088 .i32 := (dV).slice (dR L) (fun _ => rfl)
abbrev oK (L : grid1.Coords) : Memref sig .scVector .hbm S50176 .f32 := (oV).slice (oR L) (fun _ => rfl)

variable [FloatOps F]

theorem dK_read (a : Buf (Elt F) (dLoc d)) : (dK L).view.read (Elt F) a = sliceOf (F := F) a (wid L) := by
  have h := wid_lt L
  funext x
  rw [View.read_apply]
  show a _ = a _
  congr 1
  symm
  apply lane_eq
  have hx : (x 0).val < 25088 := (x 0).isLt
  show (25088 * wid L + (x 0).val) = (k1_off1 L) 0 + 1 * (x 0).val
  rw [k1_off1_eq]
  simp [wid]; omega

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit [FloatOps F] in
/-- The two DMA cells the body names, out of the tile's own. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩)]

omit [FloatOps F] in
/-- The two scratches, out of the tile's own buffers. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
theorem pts_sD (f : Buf (Elt F) ((V d (cV L) (jV L)).loc cc1_scratch0)) :
    ((sD).view.loc (V d (cV L) (jV L)) ↦{fullShare} f : sProp 𝕄) = (V d (cV L) (jV L)).loc cc1_scratch0 ↦{fullShare} f := rfl
omit [FloatOps F] in
theorem pts_sH (f : Buf (Elt F) ((V d (cV L) (jV L)).loc cc1_scratch1)) :
    ((sH).view.loc (V d (cV L) (jV L)) ↦{fullShare} f : sProp 𝕄) = (V d (cV L) (jV L)).loc cc1_scratch1 ↦{fullShare} f := rfl

/-- The tile's slice of the row of destinations, at `a`; its slice of the table, at `f`. -/
abbrev dPts (a : Buf (Elt F) (dLoc d)) : sProp 𝕄 := (dK L).view.loc (V d (cV L) (jV L)) ↦[(dK L).view.set]{fullShare} a
abbrev oPts (f : Buf (Elt F) (oLoc d)) : sProp 𝕄 := (oK L).view.loc (V d (cV L) (jV L)) ↦[(oK L).view.set]{fullShare} f

/-- The zeroing loop's invariant: before trip `k`, the histogram's first `16 k` words are zero. -/
def zInv (k : ℕ) (_ : PUnit) : sProp 𝕄 :=
  iprop(∃ f : Buf (Elt F) ((V d (cV L) (jV L)).loc cc1_scratch1),
    ⌜∀ j : S50176.Idx, (j 0).val < 16 * k → f j = (Scalar.ofBits .f32 0x00000000#32 : F .f32)⌝
      ∗ (sH).view.loc (V d (cV L) (jV L)) ↦{fullShare} f)

/-- The count loop's invariant: before trip `k`, the destinations as fetched, the histogram at `k` trips. -/
def cInv (dst : Vec F S25088 .i32) (k : ℕ) (_ : PUnit) : sProp 𝕄 :=
  iprop(((sD).view.loc (V d (cV L) (jV L)) ↦{fullShare} dst) ∗ ((sH).view.loc (V d (cV L) (jV L)) ↦{fullShare} histAt (F := F) dst k))

/-- The two loops' trip counts. -/
theorem trips_zero : k1_t1_loop.trips = 3136 := by decide +kernel
theorem trips_count : k1_t2_loop.trips = 1568 := by decide +kernel

/-- One trip of the zeroing loop on the histogram's contents: the next sixteen words are zero too. -/
theorem zero_step (k : Fin k1_t1_loop.trips) (f : Vec F S50176 .f32)
    (hf : ∀ j : S50176.Idx, (j 0).val < 16 * k.val → f j = (Scalar.ofBits .f32 0x00000000#32 : F .f32)) (j : S50176.Idx)
    (hj : (j 0).val < 16 * (k.val + 1)) :
    (sH).view.writes (Elt F) f [⟨Rect.unit (s := S50176) (k1_off2 k) S16.size (k1_off2_inb k), k1_pay1 (F := F)⟩] j
      = (Scalar.ofBits .f32 0x00000000#32 : F .f32) := by
  change (sH).view.read (Elt F) ((sH).view.writes (Elt F) f
    [⟨Rect.unit (s := S50176) (k1_off2 k) S16.size (k1_off2_inb k), k1_pay1 (F := F)⟩]) j = _
  have ho : k1_off2 k 0 = 16 * k.val := by rw [k1_off2_eq]; rfl
  by_cases h : (j 0).val < 16 * k.val
  · rw [View.read_writes_cons_miss_of_axis _ _ _ _ j 0 (16 * k.val) 16 ho rfl rfl (.inl h)]
    exact hf j h
  · rw [View.read_writes_cons_hit_of_coords _ _ _ _ _ (lane 16 ((j 0).val - 16 * k.val)) j (fun a => by
      obtain rfl : a = 0 := Subsingleton.elim _ _
      show (j 0).val = k1_off2 k 0 + 1 * (((j 0).val - 16 * k.val) % 16)
      rw [ho, Nat.mod_eq_of_lt (by omega)]; omega)]
    rfl

theorem chunk_read (k : Fin k1_t2_loop.trips) (dst : Vec F S25088 .i32) :
    (sD).view.readAt (Elt F) (Rect.unit (s := S25088) (k1_off3 k) S16.size (k1_off3_inb k)).toLoadRect dst = chunk (F := F) dst k.val := by
  have hk : k.val < 1568 := trips_count ▸ k.isLt
  funext x
  have hx : (x 0).val < 16 := (x 0).isLt
  rw [View.readAt_apply]
  show dst _ = dst _
  congr 1
  symm
  apply lane_eq
  show 16 * k.val + (x 0).val = k1_off3 k 0 + 1 * (x 0).val
  have ho : k1_off3 k 0 = 16 * k.val := by rw [k1_off3_eq]; rfl
  rw [ho]; omega

theorem chunk_chk (dst : Vec F S25088 .i32) (h : ∀ j, (dst j : BitVec 32).toNat < 50176) (k : ℕ) : k1_chk1 (chunk (F := F) dst k) := by
  intro a x
  obtain rfl : a = 0 := Subsingleton.elim _ _
  exact h _

theorem read_chk (k : Fin k1_t2_loop.trips) (dst : Vec F S25088 .i32) (h : ∀ j, (dst j : BitVec 32).toNat < 50176) :
    k1_chk1 ((sD).view.readAt (Elt F) (Rect.unit (s := S25088) (k1_off3 k) S16.size (k1_off3_inb k)).toLoadRect dst) := by
  rw [chunk_read]; exact chunk_chk dst h k.val

theorem histAt_succ (dst : Vec F S25088 .i32) (k : ℕ) : histAt (F := F) dst (k + 1) = bump (chunk dst k) (histAt dst k) := rfl

theorem bump_of (v : Vec F S16 .i32) (hc : k1_chk1 v) (g : Vec F S50176 .f32) :
    bump v g = storeIdx g ![v] (k1_pay4 (F := F) v) (k1_pay3 (F := F) v) true (k1_idx1_inb v hc) := dif_pos hc

/-- The scatter-add of one trip, as the machine states it, is the histogram one trip later. -/
theorem bump_read (k : Fin k1_t2_loop.trips) (dst : Vec F S25088 .i32)
    (v : Vec F S16 .i32) (hv : v = (sD).view.readAt (Elt F) (Rect.unit (s := S25088) (k1_off3 k) S16.size (k1_off3_inb k)).toLoadRect dst)
    (hc : k1_chk1 v) :
    storeIdx (histAt (F := F) dst k.val) ![v] (k1_pay4 (F := F) v) (k1_pay3 (F := F) v) true (k1_idx1_inb v hc) = histAt (F := F) dst (k.val + 1) := by
  rw [chunk_read] at hv
  rw [← bump_of v hc, histAt_succ, hv]

omit [FloatOps F] in
theorem pts_sH_whole (f : Buf (Elt F) ((V d (cV L) (jV L)).loc cc1_scratch1)) :
    (((sH).access (.whole S50176)).loc (V d (cV L) (jV L)) ↦[((sH).access (.whole S50176)).set]{fullShare} f : sProp 𝕄)
      = (sH).view.loc (V d (cV L) (jV L)) ↦{fullShare} f := by
  rw [show ((sH).access (.whole S50176)).set = Finset.univ from Memref.set_access_whole (cc1_scratch1 : Ref sig .scVector)]

/-- What the tile writes out is its part of the table of counts. -/
theorem oK_counts (a : Vec F S802816 .i32) (g : Vec F S1605632 .f32) (w : Vec F S50176 .f32) (hw : w = histAt (sliceOf a (wid L)) 1568)
    (j : S1605632.Idx) (hj : j ∈ (oK L).view.set) : (oK L).view.write (Elt F) g w Finset.univ j = countsOf (F := F) a j := by
  subst hw
  have hwid := wid_lt L
  obtain ⟨x, -, rfl⟩ := Finset.mem_map.mp hj
  rw [View.write_emb_of_mem _ _ (Finset.mem_univ _)]
  have hx : (x 0).val < 50176 := (x 0).isLt
  have he : (((oK L).view.emb x) 0).val = 50176 * wid L + (x 0).val := by
    show k1_off4 L 0 + 1 * (x 0).val = _
    rw [k1_off4_eq]
    simp [wid]; omega
  show histAt _ 1568 x = histAt (sliceOf a ((((oK L).view.emb x) 0).val / 50176)) 1568 (lane 50176 (((oK L).view.emb x) 0).val)
  rw [he, Nat.mul_add_div (by decide), Nat.div_eq_of_lt hx, Nat.add_zero]
  congr 1
  funext b
  obtain rfl : b = 0 := Subsingleton.elim _ _
  apply Fin.ext
  rw [lane_val, Nat.mul_add_mod, Nat.mod_eq_of_lt hx]

theorem tile_body (a : Buf (Elt F) (dLoc d)) (ha : ∀ j, (a j : BitVec 32).toNat < 50176) (hF : (K (F := F)).Facts)
    (O : CellTallies nD τ sig (HIx 1)) (W : Waits sig (HIx 1)) (hO : ∀ g, O g none = 0) :
    iprop(levAts (K (F := F)).L (K (F := F)).lev ∗ emp
        ∗ dPts d L a ∗ (∃ f, oPts d L f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__cnt_kernel L dV (Memref.isWhole_whole _) oV (Memref.isWhole_whole _)
            sD (Memref.isWhole_whole _) sH (Memref.isWhole_whole _) cc1_scoped0 cc1_scoped1)
          fun _ => iprop(dPts d L a ∗ oPts d L (countsOf (F := F) a)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold dPts oPts
  iintro ⟨#Hlv, -, Hx, ⟨%fo, Ho⟩, ⟨⟨%fs, Hs⟩, ⟨%fc, Hc⟩, Hbufs⟩, ⟨HsemA, HsemB, Hsems⟩, HO⟩
  ihave Hmw := (show (levAts (K (F := F)).L (K (F := F)).lev : sProp 𝕄) ⊢ Transfers.MayWaits (V d (cV L) (jV L)) (default : HIx 1) O from
    (K (F := F)).mayWaits_none (thr := V d (cV L) (jV L)) hO) $$ Hlv
  ihave Hs' := (Entails.of_eq (pts_sD (F := F) d L _).symm) $$ Hs
  ihave Hc' := (Entails.of_eq (pts_sH (F := F) d L _).symm) $$ Hc
  rw [cc1__cnt_kernel_eq_skeleton]
  sl_unfold [cc1__cnt_kernel_skel]
  sl_exec (disch := exact View.amount_pos _ _ (show 0 < S25088.numel by decide))
  sl_for (zInv (F := F) d L) $$ [Hc']
  case region =>
    intro k _
    unfold zInv
    iintro ⟨%f, %hf, Hc⟩
    sl_exec
    sl_step
    iexists _
    isplitr; swap
    · iexact Hc
    · ipureintro; exact zero_step k f hf
  · unfold zInv
    iexists _; isplitr; swap
    · iexact Hc'
    · ipureintro; intro j hj; exact absurd hj (Nat.not_lt_zero _)
  iintro %_ HI
  unfold zInv
  icases HI with ⟨%f, %hf, Hc'⟩
  have hz : f = histAt (F := F) (sliceOf a (wid L)) 0 := funext fun j => hf j (lt_of_lt_of_eq (j 0).isLt (by
    show 50176 = 16 * k1_t1_loop.trips
    rw [trips_zero]))
  subst hz
  have hs : (View.write (Elt F) (sD).view fs (tile_body.sl.dma0 d L a) Finset.univ : Buf (Elt F) ((V d (cV L) (jV L)).loc cc1_scratch0))
      = sliceOf (F := F) a (wid L) := by
    rw [← dK_read d L a]
    exact View.write_whole_univ _ _ _
  rw [hs]
  sl_exec
  sl_for (cInv (F := F) d L (sliceOf a (wid L))) $$ [Hs' Hc']
  case region =>
    intro k _
    unfold cInv
    iintro ⟨Hs, Hc⟩
    sl_exec
    rw [wp_assume_of _ _ _ _ (read_chk k (sliceOf (F := F) a (wid L)) (fun j => ha _))]
    ihave Hc' := (Entails.of_eq (pts_sH_whole (F := F) d L _).symm) $$ Hc
    iapply (SparseCore.wp_vectorStoreIdx 𝒱₀ (V d (cV L) (jV L)) none Set.univ (base := sH)) $$ Hc'; iintro Hc'
    ihave Hc := (Entails.of_eq (pts_sH_whole (F := F) d L _)) $$ Hc'
    rw [Memref.write_access_whole_univ, Memref.read_access_whole]
    ihave Hc := (Entails.of_eq (congrArg (fun g => ((sH).view.loc (V d (cV L) (jV L)) ↦{fullShare} g : sProp 𝕄))
      (bump_read k (sliceOf (F := F) a (wid L)) _ rfl (read_chk k (sliceOf (F := F) a (wid L)) (fun j => ha _))))) $$ Hc
    sl_step
    isplitl [Hs]
    · iexact Hs
    · iexact Hc
  · unfold cInv
    isplitl [Hs']
    · iexact Hs'
    · iexact Hc'
  iintro %_ HI
  unfold cInv
  icases HI with ⟨Hs', Hc'⟩
  sl_exec (disch := exact View.amount_pos _ _ (show 0 < S50176.numel by decide))
  have hd : (tile_body.sl.dma0_1 d L a : Vec F S50176 .f32) = histAt (F := F) (sliceOf a (wid L)) 1568 := by
    unfold tile_body.sl.dma0_1
    rw [← trips_count]
    funext x
    show histAt _ _ _ = histAt _ _ x
    congr 1
    funext b
    obtain rfl : b = (0 : Fin 1) := Subsingleton.elim (α := Fin 1) _ _
    apply Fin.ext
    show 0 + 1 * (x 0).val = (x 0).val
    omega
  have hw : ∀ j ∈ (oK L).view.set, (oK L).view.writes (Elt F) fo [⟨Rect.whole S50176, tile_body.sl.dma0_1 d L a⟩] j = countsOf (F := F) a j := fun j hj => by
    rw [View.writes_singleton, ← oK_counts L a fo _ hd j hj]
    obtain ⟨x, -, rfl⟩ := Finset.mem_map.mp hj
    rw [View.write_emb_of_mem _ _ (Finset.mem_univ _)]
    have he : (oK L).view.emb x = ((oK L).view.slice (Rect.whole S50176)).emb x := by
      funext b
      obtain rfl : b = (0 : Fin 1) := Subsingleton.elim (α := Fin 1) _ _
      apply Fin.ext
      show k1_off4 L 0 + 1 * (x 0).val = k1_off4 L 0 + 1 * (0 + 1 * (x 0).val)
      omega
    rw [he, View.write_emb_of_mem _ _ (Finset.mem_univ _)]
  ihave Ho' := (Entails.of_eq (pointsTo_congr hw)) $$ Ho
  rw [wp_ret]; imodintro
  isplitl [Hx]; · iexact Hx
  isplitl [Ho']; · iexact Ho'
  isplitl [Hs' Hc' Hbufs]
  · isplitl [Hs']
    · iexists _; iexact Hs'
    isplitl [Hc']
    · iexists _; iexact Hc'
    iexact Hbufs
  isplitl [HsemA HsemB Hsems]
  · isplitl [HsemA]; · iexact HsemA
    isplitl [HsemB]; · iexact HsemB
    iexact Hsems
  iexists _; isplitr; swap
  · iexact HO
  · ipureintro; intro p hp
    rcases Finset.mem_insert.mp hp with rfl | hp
    · exact .inr (.inl rfl)
    rcases Finset.mem_insert.mp hp with rfl | hp
    · exact .inr (.inl rfl)
    exact .inl hp

end Tile

end Cert.Proof.Run

end
-- ==== Proof.Tasks.lean ====
/-
  The SparseCore call as the launch sees it: what its cores and tiles are handed and hand back, each tile's obligation from
  `tile_body`, and the row of destinations and the table of counts cut into the thirty-two tiles' slices and put together again.
-/
module

public import proofs.«01_k».proof.Proof.Tile

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "dV" => (Memref.whole Cert.KernelIdeal.main_v6_scv : Memref Cert.KernelIdeal.sig Kind.scVector Space.hbm Cert.KernelIdeal.S802816 EltTy.i32)
local notation "oV" => (Memref.whole Cert.KernelIdeal.main_v7_scv : Memref Cert.KernelIdeal.sig Kind.scVector Space.hbm Cert.KernelIdeal.S1605632 EltTy.f32)
local notation "sD" => (Memref.whole Cert.KernelIdeal.cc1_scratch0 : Memref Cert.KernelIdeal.sig Kind.scVector Space.vmem Cert.KernelIdeal.S25088 EltTy.i32)
local notation "sH" => (Memref.whole Cert.KernelIdeal.cc1_scratch1 : Memref Cert.KernelIdeal.sig Kind.scVector Space.vmem Cert.KernelIdeal.S50176 EltTy.f32)

/-- The coordinates of tile `s` of core `c`. -/
def coordsV (c : Fin (grid1.bound 0)) (s : Fin (grid1.bound 1)) : grid1.Coords :=
  fun | 0 => c | 1 => s | ⟨_ + 2, h⟩ => absurd h (Nat.not_lt.2 (Nat.le_add_left _ _))

/-! ## The slices -/

theorem mem_dK (L : grid1.Coords) (j : S802816.Idx) :
    j ∈ (dK L).view.set ↔ 25088 * wid L ≤ (j 0).val ∧ (j 0).val < 25088 * wid L + 25088 := by
  have ho : k1_off1 L 0 = 25088 * wid L := by rw [k1_off1_eq]; simp [wid]; omega
  have hs : (dK L).view.set = (dR L).set := by
    show ((View.whole (main_v6_scv : Ref sig .scVector)).slice (dR L)).set = _
    rw [View.set_slice]; exact Finset.map_refl
  rw [hs]
  unfold dR
  rw [Rect.mem_set_unit]
  constructor
  · intro h
    have h0 := h 0
    rw [ho] at h0
    exact h0
  · intro h a
    obtain rfl : a = (0 : Fin 1) := Subsingleton.elim (α := Fin 1) _ _
    rw [ho]
    exact h

theorem mem_oK (L : grid1.Coords) (j : S1605632.Idx) :
    j ∈ (oK L).view.set ↔ 50176 * wid L ≤ (j 0).val ∧ (j 0).val < 50176 * wid L + 50176 := by
  have ho : k1_off4 L 0 = 50176 * wid L := by rw [k1_off4_eq]; simp [wid]; omega
  have hs : (oK L).view.set = (oR L).set := by
    show ((View.whole (main_v7_scv : Ref sig .scVector)).slice (oR L)).set = _
    rw [View.set_slice]; exact Finset.map_refl
  rw [hs]
  unfold oR
  rw [Rect.mem_set_unit]
  constructor
  · intro h
    have h0 := h 0
    rw [ho] at h0
    exact h0
  · intro h a
    obtain rfl : a = (0 : Fin 1) := Subsingleton.elim (α := Fin 1) _ _
    rw [ho]
    exact h

theorem wid_coordsV (c : Fin 2) (s : Fin 16) : wid (coordsV c s) = 2 * s.val + c.val := rfl

/-- The tiles' slices of the row of destinations, by core and tile. -/
abbrev dSet (p : Fin 2 × Fin 16) : Finset S802816.Idx := (dK (coordsV p.1 p.2)).view.set
/-- The tiles' slices of the table of counts. -/
abbrev oSet (p : Fin 2 × Fin 16) : Finset S1605632.Idx := (oK (coordsV p.1 p.2)).view.set

theorem pair_of_wid {p q : Fin 2 × Fin 16} (h : 2 * p.2.val + p.1.val = 2 * q.2.val + q.1.val) : p = q := by
  have h1 := p.1.isLt
  have h2 := q.1.isLt
  refine Prod.ext (Fin.ext ?_) (Fin.ext ?_) <;> omega

theorem dSet_disjoint : ∀ p ∈ (Finset.univ : Finset (Fin 2 × Fin 16)), ∀ q ∈ (Finset.univ : Finset (Fin 2 × Fin 16)), p ≠ q →
    Disjoint (dSet p) (dSet q) := fun p _ q _ hpq => Finset.disjoint_left.mpr fun j hp hq => hpq <| pair_of_wid <| by
  have h1 := (mem_dK _ j).mp hp
  have h2 := (mem_dK _ j).mp hq
  rw [wid_coordsV] at h1 h2
  omega

theorem oSet_disjoint : ∀ p ∈ (Finset.univ : Finset (Fin 2 × Fin 16)), ∀ q ∈ (Finset.univ : Finset (Fin 2 × Fin 16)), p ≠ q →
    Disjoint (oSet p) (oSet q) := fun p _ q _ hpq => Finset.disjoint_left.mpr fun j hp hq => hpq <| pair_of_wid <| by
  have h1 := (mem_oK _ j).mp hp
  have h2 := (mem_oK _ j).mp hq
  rw [wid_coordsV] at h1 h2
  omega

theorem dSet_cover : (Finset.univ : Finset (Fin 2 × Fin 16)).biUnion dSet = Finset.univ := by
  refine Finset.eq_univ_iff_forall.mpr fun j => Finset.mem_biUnion.mpr ?_
  have hj : (j 0).val < 802816 := (j 0).isLt
  refine ⟨(⟨(j 0).val / 25088 % 2, by omega⟩, ⟨(j 0).val / 25088 / 2, by omega⟩), Finset.mem_univ _, ?_⟩
  rw [dSet, mem_dK, wid_coordsV]
  dsimp only
  omega

theorem oSet_cover : (Finset.univ : Finset (Fin 2 × Fin 16)).biUnion oSet = Finset.univ := by
  refine Finset.eq_univ_iff_forall.mpr fun j => Finset.mem_biUnion.mpr ?_
  have hj : (j 0).val < 1605632 := (j 0).isLt
  refine ⟨(⟨(j 0).val / 50176 % 2, by omega⟩, ⟨(j 0).val / 50176 / 2, by omega⟩), Finset.mem_univ _, ?_⟩
  rw [oSet, mem_oK, wid_coordsV]
  dsimp only
  omega

/-- The row of destinations, whole, is its tiles' slices. -/
theorem dPts_split (d : Dev nD) (a : Buf (Elt F) (dLoc d)) :
    (dLoc d ↦{fullShare} a : sProp 𝕄)
      = bigSep Finset.univ fun c : Fin 2 => bigSep Finset.univ fun s : Fin 16 => dPts d (coordsV c s) a := by
  have h := pointsTo_biUnion (U := UU) (Ix := HIx 1) (Name := ℕ) (Lvl := ℕ) (q := fullShare) (f := a) (Finset.univ : Finset (Fin 2 × Fin 16)) (ℓ := dLoc d) dSet dSet_disjoint
  rw [dSet_cover] at h
  exact h.trans (bigSep_univ_prod _)

/-- The table of counts, whole, is its tiles' slices. -/
theorem oPts_split (d : Dev nD) (f : Buf (Elt F) (oLoc d)) :
    (oLoc d ↦{fullShare} f : sProp 𝕄)
      = bigSep Finset.univ fun c : Fin 2 => bigSep Finset.univ fun s : Fin 16 => oPts d (coordsV c s) f := by
  have h := pointsTo_biUnion (U := UU) (Ix := HIx 1) (Name := ℕ) (Lvl := ℕ) (q := fullShare) (f := f) (Finset.univ : Finset (Fin 2 × Fin 16)) (ℓ := oLoc d) oSet oSet_disjoint
  rw [oSet_cover] at h
  exact h.trans (bigSep_univ_prod _)

/-! ## What the call hands over and takes back -/

section Call

variable [FloatOps F]
variable (A : (d : Dev nD) → Buf (Elt F) (dLoc d))

/-- What one tile starts from: its slice of the row of destinations, its slice of the table at any contents. -/
abbrev tileGo (d : Dev nD) (c : Fin 2) (s : Fin 16) : sProp 𝕄 :=
  iprop(dPts d (coordsV c s) (A d) ∗ ∃ f, oPts d (coordsV c s) f)
/-- What it hands back: the same slice of the row, and its slice of the table at the counts. -/
abbrev tileDn (d : Dev nD) (c : Fin 2) (s : Fin 16) : sProp 𝕄 :=
  iprop(dPts d (coordsV c s) (A d) ∗ oPts d (coordsV c s) (countsOf (F := F) (A d)))

/-- The call's payments: each core is handed its sixteen tiles' pieces. -/
def P : (K (F := F)).Pay (nD := nD) (Val := Elt F) (Name := ℕ) (U := UU) where
  st := fun q d c => match q with | 0 => bigSep Finset.univ fun s : Fin 16 => tileGo A d c s
  dn := fun q d c => match q with | 0 => bigSep Finset.univ fun s : Fin 16 => tileDn A d c s
  go := fun q d c i => match q with | 0 => tileGo A d c i
  td := fun q d c i => match q with | 0 => tileDn A d c i
  x := fun _ _ => iprop(emp)

instance P_storable : (P (F := F) A).IsStorable where
  st q d c := match q with
    | 0 => (inferInstance : BI.Storable (upEmb : UEmb _ 𝕄) (bigSep Finset.univ fun s : Fin 16 => tileGo A d c s))
  dn q d c := match q with
    | 0 => (inferInstance : BI.Storable (upEmb : UEmb _ 𝕄) (bigSep Finset.univ fun s : Fin 16 => tileDn A d c s))
  go q d c i := match q with
    | 0 => (inferInstance : BI.Storable (upEmb : UEmb _ 𝕄) (tileGo A d c i))
  td q d c i := match q with
    | 0 => (inferInstance : BI.Storable (upEmb : UEmb _ 𝕄) (tileDn A d c i))

/-- `tile_body` at the pieces as the call groups them. -/
theorem tile_task (d : Dev nD) (L : grid1.Coords) (ha : ∀ j, (A d j : BitVec 32).toNat < 50176) (hF : (K (F := F)).Facts)
    (O : CellTallies nD τ sig (HIx 1)) (W : Waits sig (HIx 1)) (hO : ∀ g, O g none = 0) :
    iprop(levAts (K (F := F)).L (K (F := F)).lev ∗ emp
        ∗ (dPts d L (A d) ∗ ∃ f, oPts d L f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__cnt_kernel L dV (Memref.isWhole_whole _) oV (Memref.isWhole_whole _)
            sD (Memref.isWhole_whole _) sH (Memref.isWhole_whole _) cc1_scoped0 cc1_scoped1)
          fun _ => iprop((dPts d L (A d) ∗ oPts d L (countsOf (F := F) (A d)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  refine BIBase.Entails.trans ?_ ((tile_body (F := F) d L (A d) ha hF O W hO).trans (wp_mono _ _ _ fun _ => ?_))
  · iintro ⟨H1, H2, ⟨H3, H4⟩, H5⟩
    isplitl [H1]; · iexact H1
    isplitl [H2]; · iexact H2
    isplitl [H3]; · iexact H3
    isplitl [H4]; · iexact H4
    iexact H5
  · iintro ⟨H1, H2, H3⟩
    isplitl [H1 H2]
    · isplitl [H1]; · iexact H1
      iexact H2
    iexact H3

theorem defs₀_vector (c : Fin τ.nSC) (s : Fin τ.nSub) :
    defs₀ (F := F) (.scVector c s) 1 ()
      = SparseCore.onTile hcore1 hsub1 (fun c s => cc1__cnt_kernel (coordsV c s)
          dV (Memref.isWhole_whole _) oV (Memref.isWhole_whole _)
          sD (Memref.isWhole_whole _) sH (Memref.isWhole_whole _) cc1_scoped0 cc1_scoped1) ⟨⟩ c s := rfl

/-- Every tile meets its obligation, where every word of the row of destinations is a row of the histogram. -/
theorem tileObl (hA : ∀ d j, (A d j : BitVec 32).toNat < 50176) (hF : (K (F := F)).Facts) :
    (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task (F := F) A d (coordsV ⟨_, hci.1⟩ ⟨_, hci.2⟩) (hA d) hF O W hO

theorem vecSplit : (K (F := F)).VecSplit' (P A) 0 := by
  intro d c
  show (bigSep Finset.univ fun s : Fin 16 => tileGo A d c s) ⊢ |={Set.univ}=> iprop(
      (bigSep Finset.univ fun s : Fin 16 => tileGo A d c s)
      ∗ ((bigSep Finset.univ fun s : Fin 16 => tileDn A d c s) -∗ (bigSep Finset.univ fun s : Fin 16 => tileDn A d c s)))
  iintro H; imodintro
  isplitl [H]; · iexact H
  iintro H; iexact H

/-- The two cores' pieces, from the row of destinations and the table whole. -/
theorem st_of_whole (d : Dev nD) (f : Buf (Elt F) (oLoc d)) :
    iprop((dLoc d ↦{fullShare} A d) ∗ oLoc d ↦{fullShare} f)
      ⊢ (bigSep Finset.univ fun c : Fin ((K (F := F)).nCore 0) => (P A).st 0 d c : sProp 𝕄) := by
  show _ ⊢ (bigSep Finset.univ fun c : Fin 2 => bigSep Finset.univ fun s : Fin 16 => tileGo A d c s : sProp 𝕄)
  rw [dPts_split, oPts_split, ← bigSep_sep']
  refine bigSep_mono fun c _ => ?_
  rw [← bigSep_sep']
  refine bigSep_mono fun s _ => ?_
  show iprop(dPts d (coordsV c s) (A d) ∗ oPts d (coordsV c s) f) ⊢ iprop(dPts d (coordsV c s) (A d) ∗ ∃ f, oPts d (coordsV c s) f)
  iintro ⟨H1, H2⟩
  isplitl [H1]; · iexact H1
  iexists f; iexact H2

/-- The row of destinations and the table of counts whole, from what the two cores hand back. -/
theorem whole_of_dn (d : Dev nD) :
    (bigSep Finset.univ fun c : Fin ((K (F := F)).nCore 0) => (P A).dn 0 d c : sProp 𝕄)
      ⊢ iprop((dLoc d ↦{fullShare} A d) ∗ oLoc d ↦{fullShare} countsOf (F := F) (A d)) := by
  show (bigSep Finset.univ fun c : Fin 2 => bigSep Finset.univ fun s : Fin 16 => tileDn A d c s : sProp 𝕄) ⊢ _
  rw [dPts_split, oPts_split, ← bigSep_sep']
  refine bigSep_mono fun c _ => ?_
  rw [← bigSep_sep']
  exact (show ∀ X : sProp 𝕄, X ⊢ X from fun X => .rfl) _

end Call

end Cert.Proof.Run

end
-- ==== Proof.Main.lean ====
/-
  The run of the program. @main on a device's TensorCore takes its buffers from the launch's contents through the four lines and
  the four calls to a final valuation in the relation `Rel` to them; the launch's ghost state pays the handshakes of the SparseCore
  call and the cells of the three TensorCore calls; the launch theorem makes of these that every execution ends, every counter at
  zero and the buffers of every device at a valuation so related to the launch's.
-/
module

public import proofs.«01_k».proof.Proof.Segs
public import proofs.«01_k».proof.Proof.Tasks

@[expose] public section

noncomputable section

namespace Cert.Proof.Run

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.SparseCore (S V T)
open Idealize.ShloMosaic.SparseCore.Cfg (HIx)
open Idealize.ShloMosaic.Pipeline (arrRef arrRefs pin cellsGhost toksInit ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The valuations a run goes through -/

/-- The padded row of destination nodes on device `d`. -/
def rowOf (d : Dev nD) : Buf (Elt F) (dLoc d) := flat (F := F) (m (d, dref main_arg4))

/-- What the SparseCore call makes of a valuation: its result the counts of its operand. -/
def scV (W : Valuation τ sig (Elt F)) : Valuation τ sig (Elt F) :=
  Function.update W (dref main_v7) (countsOf (F := F) (W (dref main_v6)))

/-- Before the first TensorCore call. -/
def V1 (d : Dev nD) : Valuation τ sig (Elt F) := after opsA fun b => m (d, b)
/-- Before the second, from what the first left. -/
def V5 (V2 : Valuation τ sig (Elt F)) : Valuation τ sig (Elt F) := after opsB (scV (after opsR V2))
/-- Before the third, from what the second left. -/
def V7 (V6 : Valuation τ sig (Elt F)) : Valuation τ sig (Elt F) := after opsC V6

/-- A final valuation that a run from the launch's contents may reach. -/
def Rel (d : Dev nD) (Vf : Valuation τ sig (Elt F)) : Prop :=
  ∃ V2 V6, Left 0 (V1 m d) 0 d V2 ∧ Left 1 (V5 V2) 1 d V6 ∧ Left 1 (V7 V6) 2 d Vf

theorem V1_v4 (d : Dev nD) : V1 m d (dref main_v4)
    = extractStridedSlice S1x800000 ![1, 0] (m (d, dref main_arg4)) slices_S2x800000_S1x800000_1_0 := by
  unfold V1 opsA
  after_results_simp

/-- The row the SparseCore call reads. -/
theorem row_read [∀ e, Nonempty (Elt F e)] (d : Dev nD) (V2 : Valuation τ sig (Elt F)) (h : Left 0 (V1 m d) 0 d V2) :
    after opsR V2 (dref main_v6) = rowOf m d := by
  have e : after opsR V2 (dref main_v6) = shapeCast S802816 (V2 (dref main_v5)) shapeCasts_S8x100352_S802816 := by
    unfold opsR
    after_results_simp
    rfl
  rw [e, edges_val 0 (V1 m d) V2 d h, V1_v4]
  rfl

/-! ## The SparseCore call's buffers out of the device's -/

/-- The operand and the result of the SparseCore call. -/
def scRefs : Finset (DevRef τ sig) := {dref main_v6, dref main_v7}

theorem scRefs_sub : scRefs ⊆ ucRefs τ sig := by decide

theorem held_sc (d : Dev nD) (W : Valuation τ sig (Elt F)) :
    (held (T d) scRefs W : sProp 𝕄) = iprop((dLoc d ↦{fullShare} W (dref main_v6)) ∗ oLoc d ↦{fullShare} W (dref main_v7)) := by
  unfold held scRefs
  rw [SparseCore.bigSep_insert' (by decide), bigSep_singleton]

theorem sc_out (d : Dev nD) (W : Valuation τ sig (Elt F)) (a : Buf (Elt F) (dLoc d)) (h : W (dref main_v6) = a) :
    (held (T d) (ucRefs τ sig) W : sProp 𝕄)
      ⊢ iprop(((dLoc d ↦{fullShare} a) ∗ oLoc d ↦{fullShare} W (dref main_v7)) ∗ held (T d) (ucRefs τ sig \ scRefs) W) := by
  subst h
  rw [held_sub_split (T d) scRefs_sub W, held_sc]

theorem sc_in (d : Dev nD) (W : Valuation τ sig (Elt F)) (a : Buf (Elt F) (dLoc d)) (h : W (dref main_v6) = a) :
    iprop(((dLoc d ↦{fullShare} a) ∗ oLoc d ↦{fullShare} countsOf (F := F) a) ∗ held (T d) (ucRefs τ sig \ scRefs) W)
      ⊢ (held (T d) (ucRefs τ sig) (scV W) : sProp 𝕄) := by
  subst h
  rw [held_sub_split (T d) scRefs_sub (scV W), held_sc,
    show scV W (dref main_v6) = W (dref main_v6) from Function.update_of_ne (show dref main_v6 ≠ dref main_v7 by decide) _ _,
    show scV W (dref main_v7) = countsOf (F := F) (W (dref main_v6)) from Function.update_self _ _ _,
    held_congr (T d) (S := ucRefs τ sig \ scRefs) (V := scV W) (V' := W) fun b hb => Function.update_of_ne (by
      rintro rfl
      exact (Finset.mem_sdiff.mp hb).2 (by decide)) _ _]

/-! ## @main on the TensorCore -/

/-- What the TensorCore's state before call `n` holds beside what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄) = iprop(owesB (F := F) d n ∗ tcRest d n) := by
  unfold SparseCore.Cfg.tcSt owesB tcRest
  rfl

/-- What @main leaves the claim: the device's buffers at a valuation a run may reach. -/
def FIN (d : Dev nD) : sProp 𝕄 := iprop(∃ Vf, ⌜Rel m d Vf⌝ ∗ held (T d) (ucRefs τ sig) Vf)

/-- The ghost state of the TensorCore calls' cells on a device. -/
def GH (d : Dev nD) : sProp 𝕄 :=
  iprop((bigSep Finset.univ fun p => cellsGhost (pin (pcfgs (F := F)) adm) EP p d)
    ∗ bigSep Finset.univ fun p => toksInit (pin (pcfgs (F := F)) adm) EP p d)

theorem arrs_sub (p : Fin 3) : arrRefs (cfgs p).spec ⊆ ucRefs τ sig :=
  Pipeline.arrRefs_sub_ucRefs _ (by match p with | 0 => decide | 1 => decide | 2 => decide)

theorem bigSep_three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide),
    SparseCore.bigSep_insert' (by decide), bigSep_singleton]

theorem hmain [∀ e, Nonempty (Elt F e)] (κ : GSem nD τ sig → ℕ) (d : Dev nD) :
    iprop((K (F := F)).ctx EH (P (F := F) (rowOf m)) κ ∗ (K (F := F)).tcSt EH d 0 ∗ (K (F := F)).tcRes m ρ d ∗ GH (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd GH
  rw [show (unscopedBufs d (fun b => m ((SparseCore.T d).loc b)) : sProp 𝕄) = held (T d) (ucRefs τ sig) (fun b => m (d, b)) from
    Pipeline.unscopedBufs_held d (fun b => m (d, b)), bigSep_three, bigSep_three, tcSt_eq, tcSt_eq, main_segs]
  iintro ⟨#Hctx, ⟨HO, Hrest⟩, ⟨Hb, HV, Hts, -⟩, ⟨Hg0, Hg1, Hg2⟩, ⟨Ht0, Ht1, Ht2⟩⟩
  ihave #Hlev := (SparseCore.Cfg.ctx_levAts κ) $$ Hctx
  iapply (wp_seq 𝒱 none Set.univ d (ucRefs τ sig) _ opsA opsA_sub opsA_fresh _) $$ [Hb HV]
  · isplitl [Hb] <;> iassumption
  iintro ⟨Hb, HV⟩
  -- the first TensorCore call
  iapply (Entails.of_eq (wp_bind ..).symm)
  iapply (region_wp 0 (V1 m d) 0 (ucRefs τ sig) (arrs_sub 0) d _)
  isplitr [Hb HV HO Hg0 Ht0]
  rotate_left
  · isplitl [Hb]; · iexact Hb
    isplitl [HV]; · iexact HV
    isplitl [HO]; · iexact HO
    isplitr; · iexact Hlev
    isplitl [Hg0] <;> iassumption
  iintro %V2 %h2 Hb HV HO
  iapply (wp_seq 𝒱 none Set.univ d (ucRefs τ sig) _ opsR opsR_sub opsR_fresh _) $$ [Hb HV]
  · isplitl [Hb] <;> iassumption
  iintro ⟨Hb, HV⟩
  -- the SparseCore call
  ihave HV := (sc_out d (after opsR V2) (rowOf m d) (row_read m d V2 h2)) $$ HV
  icases HV with ⟨Hsc, HV⟩
  ihave Hst := (Entails.of_eq (tcSt_eq (F := F) d 0).symm) $$ [HO Hrest]
  · isplitl [HO] <;> iassumption
  iapply (Entails.of_eq (wp_bind ..).symm)
  iapply ((K (F := F)).wp_run (D (F := F)) 𝒱 (EH := EH) (P := P (F := F) (rowOf m)) κ d 0)
  isplitr; · iexact Hctx
  isplitl [Hst]; · iexact Hst
  isplitl [Hsc]
  · iapply (st_of_whole (rowOf m) d _); iexact Hsc
  iintro ⟨Hst, Hdn⟩
  ihave Hsc := (whole_of_dn (rowOf m) d) $$ Hdn
  ihave HV := (sc_in d (after opsR V2) (rowOf m d) (row_read m d V2 h2)) $$ [Hsc HV]
  · isplitl [Hsc] <;> iassumption
  ihave Hst := (show (K (F := F)).tcSt EH d ((0 : Fin 1).val + 1) ⊢ iprop(owesB (F := F) d 1 ∗ tcRest d 1) from Entails.of_eq (tcSt_eq (F := F) d 1)) $$ Hst
  icases Hst with ⟨HO, Hrest⟩
  iapply (wp_seq 𝒱 none Set.univ d (ucRefs τ sig) _ opsB opsB_sub opsB_fresh _) $$ [Hb HV]
  · isplitl [Hb] <;> iassumption
  iintro ⟨Hb, HV⟩
  -- the second TensorCore call
  iapply (Entails.of_eq (wp_bind ..).symm)
  iapply (region_wp 1 (V5 V2) 1 (ucRefs τ sig) (arrs_sub 1) d _)
  isplitr [Hb HV HO Hg1 Ht1]
  rotate_left
  · isplitl [Hb]; · iexact Hb
    isplitl [HV]; · iexact HV
    isplitl [HO]; · iexact HO
    isplitr; · iexact Hlev
    isplitl [Hg1] <;> iassumption
  iintro %V6 %h6 Hb HV HO
  iapply (wp_seq 𝒱 none Set.univ d (ucRefs τ sig) _ opsC opsC_sub opsC_fresh _) $$ [Hb HV]
  · isplitl [Hb] <;> iassumption
  iintro ⟨Hb, HV⟩
  -- the third
  iapply (Entails.of_eq (wp_bind ..).symm)
  iapply (region_wp 1 (V7 V6) 2 (ucRefs τ sig) (arrs_sub 2) d _)
  isplitr [Hb HV HO Hg2 Ht2]
  rotate_left
  · isplitl [Hb]; · iexact Hb
    isplitl [HV]; · iexact HV
    isplitl [HO]; · iexact HO
    isplitr; · iexact Hlev
    isplitl [Hg2] <;> iassumption
  iintro %Vf %hf Hb HV HO
  iapply (Entails.of_eq (wp_pure ..).symm)
  imodintro
  isplitl [HO Hrest]
  · isplitl [HO] <;> iassumption
  isplitl [HV]
  · unfold FIN
    iexists Vf
    isplitr
    · ipureintro; exact ⟨V2, V6, h2, h6, hf⟩
    iexact HV
  isplitl [Hb] <;> iassumption

/-! ## The launch element -/

/-- The staging buffers' cells are distinct over the three calls. -/
theorem hinj (p : Fin 3) : Function.Injective (Pipeline.cellOf (nD := nD) (τ := τ) (pin (pcfgs (F := F)) adm)) := (kit (F := F) p).cellOf_inj adm

/-- The handshakes' rounds and the cells' rounds. -/
def u₀ : UU :=
  (initOf (K (F := F)).hsCells (K (F := F)).hsToks,
    (initOf (Pipeline.cells (nD := nD) (pin (pcfgs (F := F)) adm) (hinj 0)) (Pipeline.launchToks (pin (pcfgs (F := F)) adm) (hinj 0)), 1))

theorem Px_emp (A : (d : Dev nD) → Buf (Elt F) (dLoc d)) :
    (bigSep Finset.univ fun thr : Thread nD τ => bigSep Finset.univ fun q : Fin 1 => (P (F := F) A).x q thr : sProp 𝕄) = iprop(emp) := by
  show (bigSep Finset.univ fun _ : Thread nD τ => bigSep Finset.univ fun _ : Fin 1 => (iprop(emp) : sProp 𝕄)) = _
  refine (BI.bigSep_congr fun _ _ => bigSep_emp_const _).trans (bigSep_emp_const _)

/-- The launch element is the handshakes' rounds, each device's cells and nothing for the threads. -/
theorem hu₀ (A : (d : Dev nD) → Buf (Elt F) (dLoc d)) : (ownU (u₀ (F := F)) : sProp 𝕄)
    ⊢ |={Set.univ}=> iprop(BI.own (EH (initOf (K (F := F)).hsCells (K (F := F)).hsToks)) ∗ (bigSep Finset.univ fun d : Dev nD => GH (F := F) d)
        ∗ bigSep Finset.univ fun thr : Thread nD τ => bigSep Finset.univ fun q : Fin 1 => (P (F := F) A).x q thr) := by
  rw [Px_emp]
  unfold u₀
  iintro Hu
  ihave H := (ownU_pair _ _) $$ Hu
  icases H with ⟨HH, HR⟩
  ihave HR := (show BI.own (embR (initOf (Pipeline.cells (nD := nD) (pin (pcfgs (F := F)) adm) (hinj 0)) (Pipeline.launchToks (pin (pcfgs (F := F)) adm) (hinj 0)), (1 : Counters)))
      ⊢ iprop(BI.own (EP (F := F) (initOf (Pipeline.cells (nD := nD) (pin (pcfgs (F := F)) adm) (hinj 0)) (Pipeline.launchToks (pin (pcfgs (F := F)) adm) (hinj 0))))
        ∗ BI.own (((Emb.inr : Emb Counters (UP × Counters)).trans embR : Emb Counters (MT nD τ sig (HIx 1) (Elt F) ℕ UU ℕ)) 1)) from own_pair_emb _ _ _) $$ HR
  icases HR with ⟨HP, -⟩
  imod (Pipeline.fund_ghost (pin (pcfgs (F := F)) adm) (EP (F := F)) (hinj 0)) $$ HP with ⟨Hg, Ht⟩
  imodintro
  isplitl [HH]; · iexact HH
  isplitr []
  · iapply (Entails.of_eq (show iprop((bigSep Finset.univ fun d : Dev nD => bigSep Finset.univ fun p => cellsGhost (pin (pcfgs (F := F)) adm) EP p d)
        ∗ bigSep Finset.univ fun d : Dev nD => bigSep Finset.univ fun p => toksInit (pin (pcfgs (F := F)) adm) EP p d)
        = (bigSep Finset.univ fun d : Dev nD => GH (F := F) d : sProp 𝕄) from (bigSep_sep' ..).symm))
    isplitl [Hg] <;> iassumption
  iempintro

/-! ## The run -/

/-- What the claims read of device `d`'s final state. -/
def fq (d : Dev nD) (s' : Phys nD τ sig (Elt F)) : Prop :=
  ∃ Vf, Rel m d Vf ∧ ∀ b ∈ ucRefs τ sig, s'.mem.mem (d, b) = Vf b

theorem hfin (d : Dev nD) (s' : Phys nD τ sig (Elt F)) : iprop(FIN m d ∗ SI s') ⊢ (⌜fq m d s'⌝ : sProp 𝕄) := by
  unfold FIN held
  iintro ⟨⟨%Vf, %hR, HV⟩, HSI⟩
  ihave H := (pointsTo_read_all' (ucRefs τ sig) (fun b => ((d, b) : Loc nD τ sig)) (fun b => Vf b) s' fun _ => fullShare) $$ [HV HSI]
  · isplitl [HV] <;> iassumption
  icases H with ⟨%h, -⟩
  ipureintro; exact ⟨Vf, hR, h⟩

/-- What every execution ends in: every device's buffers at a valuation a run may reach, every counter at zero. -/
def QC : PUnit × MemSt nD τ sig (Elt F) → Prop := fun r =>
  (∀ d, ∃ Vf, Rel m d Vf ∧ ∀ b ∈ ucRefs τ sig, r.2.mem (d, b) = Vf b) ∧ r.2.sem = fun _ => 0

/-- Every word of the edge array names a node. -/
def EdgesOK : Prop := ∀ (d : Dev nD) (i : S2x800000.Idx), (m (d, dref main_arg4) i : BitVec 32).toNat < 50000

/-- Where every edge names two nodes, every weakly fair execution of the program from the launch's memory ends as `QC` says,
    nothing faulting. -/
theorem run_main [∀ e, Nonempty (Elt F e)] (hm : EdgesOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (F := F) (rowOf m)) (A := ∅) scFacts v₀
    (fun q hq => match q with | 0 => nomatch hq)
    (fun q _ => match q with | 0 => tileObl (rowOf m) (fun d j => flat_lt (F := F) _ (hm d) j) scFacts)
    (fun q _ => match q with | 0 => SparseCore.Cfg.VecSplit.of_plain (vecSplit (rowOf m)))
    m ρ main (GH (F := F)) (FIN m) (u₀ (F := F)) (sep_elim_left.trans (hu₀ (rowOf m))) (hmain m ρ) (fq m) (hfin m) (QC m) (fun _ h hz => ⟨h, hz⟩)

end Cert.Proof.Run

end
-- ==== Proof.Same.lean ====
/-
  The program printed for words of bits and the program printed for the reals are one text. Their bodies, their label tables and
  their threads are equal at words of bits, so a run of the one is a run of the other.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

set_option maxRecDepth 16384 in
set_option maxHeartbeats 4000000 in
/-- The four bodies are the same, label by label. -/
theorem same_bodies : @Cert.Kernel.defs₀ Bits _ _ = @Cert.KernelIdeal.defs₀ Bits _ _ := by
  funext p ℓ a
  match p, ℓ, a with
  | .tc, 0, (t, s) => rfl
  | .scVector c s, 1, _ => rfl
  | .tc, 2, (t, s) => rfl
  | .tc, 3, (t, s) => rfl
  | .tc, 1, _ => rfl
  | .scVector c s, 0, _ => rfl
  | .scVector c s, 2, _ => rfl
  | .scVector c s, 3, _ => rfl
  | .scScalar c, 0, _ => rfl
  | .scScalar c, 1, _ => rfl
  | .scScalar c, 2, _ => rfl
  | .scScalar c, 3, _ => rfl

set_option maxRecDepth 16384 in
set_option maxHeartbeats 4000000 in
/-- The label tables are the same. -/
theorem same_defs : @Cert.Kernel.defs Bits _ _ = @Cert.KernelIdeal.defs Bits _ _ :=
  congrArg (fun z => (Cert.KernelIdeal.sc (F := Bits)).defs (Pipeline.defs Cert.KernelIdeal.pcfgs z)) same_bodies

set_option maxRecDepth 16384 in
set_option maxHeartbeats 4000000 in
/-- @main is the same. -/
theorem same_main : @Cert.Kernel.main Bits _ _ = @Cert.KernelIdeal.main Bits _ _ := by funext d; rfl

set_option maxRecDepth 16384 in
set_option maxHeartbeats 4000000 in
/-- The threads are the same. -/
theorem same_threads : @Cert.Kernel.threads Bits _ _ = @Cert.KernelIdeal.threads Bits _ _ :=
  congrArg (fun z => (Cert.KernelIdeal.sc (F := Bits)).threads z) same_main

set_option maxRecDepth 16384 in
set_option maxHeartbeats 4000000 in
/-- The runs are the same. -/
theorem same_run : θ_run (Cert.Kernel.defs (F := Bits)) (Cert.Kernel.threads (F := Bits))
    = θ_run (Cert.KernelIdeal.defs (F := Bits)) (Cert.KernelIdeal.threads (F := Bits)) :=
  congr (congrArg _ same_defs) same_threads

end Cert.Proof

end
-- ==== Proof.Frames.lean ====
/-
  What a run leaves alone, and the frames. No line and no call writes an argument of the program: along the relation `Rel` each
  argument keeps its contents, so the run of Main.lean, at either instance of the floats, is the frame of the program there. The
  reference declares no semaphore, and its generated run keeps its arguments.
-/
module

public import proofs.«01_k».proof.Defs
public import proofs.«01_k».proof.Proof.Main
public import proofs.«01_k».proof.Proof.Same
public import proofs.«01_k».proof.Proof.Gen.Kernel
public import proofs.«01_k».proof.Proof.Gen.ReferenceIdeal
public import proofs.«01_k».proof.Proof.Gen.ReferenceIdeal.Run

@[expose] public section

noncomputable section

namespace Cert.Proof.Run

open Cert.KernelIdeal Cert.KernelIdeal.Gen
open Idealize.ShloMosaic Idealize.ShloMosaic.StableHlo
open Idealize.SL.Sem
open Idealize.ShloMosaic.Pipeline (arrRef ucRefs)

variable {F : FTy → Type} [FloatOps F]

variable (m : (ℓ : Loc nD τ sig) → Buf (Elt F) ℓ) (ρ : Dev nD → PrngReg)

/-- The program's arguments. -/
abbrev argRefs : List (Ref sig .tc) :=
  [main_arg0, main_arg1, main_arg2, main_arg3, main_arg4, main_arg5, main_arg6, main_arg7, main_arg8]

/-! ## What a segment keeps -/

/-- A TensorCore call keeps every buffer that is no result array of it. -/
theorem left_keep {n : ℕ} {p : Fin 3} {d : Dev nD} {V V' : Valuation τ sig (Elt F)} (h : Left n V p d V') (r : Ref sig .tc)
    (hr : ∀ w, ((cfgs p).win w).isOut = true → arrRef (cfgs p).spec w ≠ r) : V' (dref r) = V (dref r) := by
  by_cases hw : ∃ w, arrRef (cfgs p).spec w = r
  · obtain ⟨w, rfl⟩ := hw
    have hin : ((cfgs p).win w).isOut = false := by
      cases e : ((cfgs p).win w).isOut
      · rfl
      · exact absurd rfl (hr w e)
    have := h.1 w
    rw [(rdat n V p d).ArrAt_in w hin] at this
    exact this
  · exact h.2 _ fun w e => hw ⟨w, Proc.devRef_injective _ e⟩

/-- What the first line writes. -/
abbrev wA : List (Ref sig .tc) := [main_v0, main_v1, main_v2, main_v3, main_v4]
/-- What the line after the first call writes. -/
abbrev wR : List (Ref sig .tc) := [main_v6]
/-- What the line between the SparseCore call and the second TensorCore call writes. -/
abbrev wB : List (Ref sig .tc) :=
  [main_v8, main_v9, main_cst, main_v10, main_c, main_v11, main_v12, main_c_0, main_v13, main_v14, main_v15, main_v16, main_v17,
   main_c_1, main_v18, main_v19, main_c_2, main_v20, main_v21, main_v22, main_v23, main_v24, main_v25]
/-- What the last line writes. -/
abbrev wC : List (Ref sig .tc) :=
  [main_v27, main_cst_3, main_v28, main_c_4, main_v29, main_v30, main_c_5, main_v31, main_v32, main_v33, main_v34, main_v35,
   main_c_6, main_v36, main_v37, main_c_7, main_v38, main_v39, main_v40, main_v41, main_v42, main_v43]

/-- The first line keeps what it does not write. -/
theorem opsA_keep (V : Valuation τ sig (Elt F)) {r : Ref sig .tc} (hr : r ∉ wA) : after opsA V (dref r) = V (dref r) :=
  after_of_writes_sub opsA V (forall_writes_sub_of_map (W := wA) rfl) hr
/-- The line after the first call keeps what it does not write. -/
theorem opsR_keep (V : Valuation τ sig (Elt F)) {r : Ref sig .tc} (hr : r ∉ wR) : after opsR V (dref r) = V (dref r) :=
  after_of_writes_sub opsR V (forall_writes_sub_of_map (W := wR) rfl) hr
/-- The line before the second TensorCore call keeps what it does not write. -/
theorem opsB_keep (V : Valuation τ sig (Elt F)) {r : Ref sig .tc} (hr : r ∉ wB) : after opsB V (dref r) = V (dref r) :=
  after_of_writes_sub opsB V (forall_writes_sub_of_map (W := wB) rfl) hr
/-- The last line keeps what it does not write. -/
theorem opsC_keep (V : Valuation τ sig (Elt F)) {r : Ref sig .tc} (hr : r ∉ wC) : after opsC V (dref r) = V (dref r) :=
  after_of_writes_sub opsC V (forall_writes_sub_of_map (W := wC) rfl) hr

/-- The SparseCore call keeps all but its result. -/
theorem scV_keep (V : Valuation τ sig (Elt F)) {r : Ref sig .tc} (hr : r ≠ main_v7) : scV V (dref r) = V (dref r) :=
  Function.update_of_ne (fun e => hr (Proc.devRef_injective _ e)) _ _

/-- No argument is written by a line or by the SparseCore call. -/
theorem args_line : ∀ r ∈ argRefs, r ∉ wA ∧ r ∉ wR ∧ r ∉ wB ∧ r ∉ wC ∧ r ≠ main_v7 := by decide
/-- No argument is a result of the first call. -/
theorem args_0 : ∀ r ∈ argRefs, ∀ w, ((cfgs 0).win w).isOut = true → arrRef (cfgs 0).spec w ≠ r := by
  intro r hr w; revert r; fin_cases w <;> decide
/-- No argument is a result of the second call. -/
theorem args_1 : ∀ r ∈ argRefs, ∀ w, ((cfgs 1).win w).isOut = true → arrRef (cfgs 1).spec w ≠ r := by
  intro r hr w; revert r; fin_cases w <;> decide
/-- No argument is a result of the third call. -/
theorem args_2 : ∀ r ∈ argRefs, ∀ w, ((cfgs 2).win w).isOut = true → arrRef (cfgs 2).spec w ≠ r := by
  intro r hr w; revert r; fin_cases w <;> decide

/-- Before the second TensorCore call the arguments are the launch's. -/
theorem args_V5 {d : Dev nD} {V2 : Valuation τ sig (Elt F)} (h : Left 0 (V1 m d) 0 d V2) (r : Ref sig .tc) (hr : r ∈ argRefs) :
    V5 V2 (dref r) = m (d, dref r) := by
  obtain ⟨hA, hR, hB, -, h7⟩ := args_line r hr
  exact (opsB_keep _ hB).trans ((scV_keep _ h7).trans ((opsR_keep _ hR).trans
    ((left_keep h r (args_0 r hr)).trans (opsA_keep _ hA))))

/-- Before the third TensorCore call the arguments are what they were before the second. -/
theorem args_V7 {d : Dev nD} {V5' V6 : Valuation τ sig (Elt F)} (h : Left 1 V5' 1 d V6) (r : Ref sig .tc) (hr : r ∈ argRefs) :
    V7 V6 (dref r) = V5' (dref r) :=
  (opsC_keep _ (args_line r hr).2.2.2.1).trans (left_keep h r (args_1 r hr))

/-- A run ends with every argument as the launch had it. -/
theorem args_final {d : Dev nD} {Vf : Valuation τ sig (Elt F)} (h : Rel m d Vf) (r : Ref sig .tc) (hr : r ∈ argRefs) :
    Vf (dref r) = m (d, dref r) := by
  obtain ⟨V2, V6, h2, h6, hf⟩ := h
  exact (left_keep hf r (args_2 r hr)).trans ((args_V7 h6 r hr).trans (args_V5 m h2 r hr))

/-- Every argument is one of the buffers a run's end is stated of. -/
theorem args_uc : ∀ r ∈ argRefs, (dref r : DevRef τ sig) ∈ ucRefs τ sig := by
  intro r hr
  refine Finset.mem_filter.2 ⟨devRef_mem_tcRefs r, ?_⟩
  revert r; decide

/-- The arguments at the end of a run. -/
theorem args_end {r : PUnit × MemSt nD τ sig (Elt F)} (h : QC m r) (d : Dev nD) (b : Ref sig .tc) (hb : b ∈ argRefs) :
    r.2.mem (d, dref b) = m (d, dref b) := by
  obtain ⟨Vf, hR, hV⟩ := h.1 d
  exact (hV _ (args_uc b hb)).trans (args_final m hR b hb)

/-- Where the precondition's two comparisons hold at every word of the edge array, every edge names two nodes. -/
theorem edges_ok [hp : Cert.Pre_edges_named.Facts]
    (h : ∀ d : Dev nD, Cert.Pre_edges_named.fn (F := F) (m (d, dref main_arg0)) (m (d, dref main_arg1)) (m (d, dref main_arg2))
      (m (d, dref main_arg3)) (m (d, dref main_arg4)) (m (d, dref main_arg5)) (m (d, dref main_arg6)) (m (d, dref main_arg7))
      (m (d, dref main_arg8)) = fun _ => 1#1) : EdgesOK m := by
  intro d i
  have e := congrFun (h d) i
  simp only [Cert.Pre_edges_named.fn, andi, cmpi, broadcastInDim, constantI] at e
  exact word_lt _ e

end Cert.Proof.Run

namespace Cert.Proof

open Idealize.ShloMosaic Idealize.SL.Sem
open Cert.KernelIdeal (main_arg0 main_arg1 main_arg2 main_arg3 main_arg4 main_arg5 main_arg6 main_arg7 main_arg8)

/-! ## The frames -/

/-- The program's run, at any instance of the floats, keeps its arguments and brings every counter back to zero. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hm : Run.EdgesOK m) :
    θ_run (Cert.KernelIdeal.defs (F := F)) (Cert.KernelIdeal.threads (F := F)) ⟨m, fun _ => 0, ρ⟩ (fun r =>
      (∀ c : Dev Cert.KernelIdeal.nD,
        r.2.mem (c, Run.dref main_arg0) = m (c, Run.dref main_arg0) ∧ r.2.mem (c, Run.dref main_arg1) = m (c, Run.dref main_arg1)
        ∧ r.2.mem (c, Run.dref main_arg2) = m (c, Run.dref main_arg2) ∧ r.2.mem (c, Run.dref main_arg3) = m (c, Run.dref main_arg3)
        ∧ r.2.mem (c, Run.dref main_arg4) = m (c, Run.dref main_arg4) ∧ r.2.mem (c, Run.dref main_arg5) = m (c, Run.dref main_arg5)
        ∧ r.2.mem (c, Run.dref main_arg6) = m (c, Run.dref main_arg6) ∧ r.2.mem (c, Run.dref main_arg7) = m (c, Run.dref main_arg7)
        ∧ r.2.mem (c, Run.dref main_arg8) = m (c, Run.dref main_arg8))
      ∧ r.2.sem = fun _ => 0) := by
  refine (θ_run (Cert.KernelIdeal.defs (F := F)) _ _).mono ?_ (Run.run_main m ρ hm)
  intro r h
  refine ⟨fun c => ?_, h.2⟩
  have a := Run.args_end m h c
  exact ⟨a main_arg0 (by decide), a main_arg1 (by decide), a main_arg2 (by decide), a main_arg3 (by decide), a main_arg4 (by decide),
    a main_arg5 (by decide), a main_arg6 (by decide), a main_arg7 (by decide), a main_arg8 (by decide)⟩

/-- The program's run at words of bits keeps its arguments and brings every counter back to zero. -/
theorem frame_kernel [hp : Cert.Pre_edges_named.Facts] : Cert.quiescent_Kernel := by
  intro m ρ hpre
  rw [same_run]
  exact frame_any (F := Bits) m ρ (Run.edges_ok (F := Bits) m hpre)

/-- The program's run over the reals keeps its arguments and brings every counter back to zero. -/
theorem frame_kernelIdeal [hp : Cert.Pre_edges_named.Facts] : Cert.quiescent_KernelIdeal := fun m ρ hpre =>
  frame_any (F := Ideal) m ρ (Run.edges_ok (F := Ideal) m hpre)

/-- The reference keeps its arguments, and it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Values.lean ====
/-
  The kernel's result is the reference's. A layer of the kernel multiplies each node's sums by the reciprocal of its number of incoming
  edges, which it has from the SparseCore's 32 histograms; the reference divides by it. Both count the same edges, so along a run the
  arrays the kernel's calls leave are, one after the other, the reference's layers.
-/
module

public import proofs.«01_k».proof.Proof.Counts
public import proofs.«01_k».proof.Proof.Dense
public import proofs.«01_k».proof.Proof.Layer
public import proofs.«01_k».proof.Proof.Frames

@[expose] public section

noncomputable section

namespace Cert.Proof.Val

open Cert.KernelIdeal Cert.KernelIdeal.Gen Cert.Proof.Run
open Idealize.ShloMosaic Idealize.ShloMosaic.StableHlo
open Idealize.SL.Sem
open Idealize.ShloMosaic.Pipeline (arrRef ucRefs)

/-! ## One layer -/

/-- The counters as the dense calls read them: one row for each of the 32 tiles. -/
def table (e : IVec S2x800000 32) : Vec Ideal S32x50176 .f32 :=
  shapeCast S32x50176 (countsOf (F := Ideal) (flat (F := Ideal) e)) shapeCasts_S1605632_S32x50176

/-- A node's counters add up to the reference's number of its incoming edges. -/
theorem table_deg (e : IVec S2x800000 32) (he : ∀ i, (e i).toNat < 50000) (n : Fin 50000) :
    (∑ w : Fin 32, (table e (ix2 w ⟨n.val, by omega⟩) : EReal)) = deg (F := Ideal) e (ix1 n) := by
  rw [deg_at e he]
  refine (table_at _ (flat_lt e he) ⟨n.val, by omega⟩).trans ?_
  rw [degree e n]

/-- Multiplying by the reciprocal of a number that is not zero is dividing by it. -/
theorem mul_recip (s y : EReal) (hy : y ≠ 0) : s * Ideal.div 1 y = Ideal.div s y := by
  unfold Ideal.div
  rw [if_neg hy, if_neg hy, one_mul]

/-- The larger of a number and one is not zero. -/
theorem max_one_ne (x : EReal) : max x 1 ≠ 0 := fun h => by
  have h1 : (1 : EReal) ≤ max x 1 := le_max_right _ _
  rw [h] at h1
  exact absurd h1 (not_le.2 zero_lt_one)

/-- A dense call on the reference's sums, the counters and a layer's parameters makes the layer's elements. -/
theorem dense_layer (e : IVec S2x800000 32) (he : ∀ i, (e i).toNat < 50000) (H : Vec Ideal S50000x64 .f32) (W : Vec Ideal S64x64 .f32)
    (b : Vec Ideal S64 .f32) (i : Fin 50000) (q : Fin 64) :
    dense (agg (F := Ideal) e H) (table e) W (shapeCast S1x64 b shapeCasts_S64_S1x64) i q = layer (F := Ideal) e H W b (ix2 i q) := by
  have hb : (shapeCast S1x64 b shapeCasts_S64_S1x64 (ix2 0 q) : EReal) = b (ix1 q) := by pointwise!
  refine Eq.trans ?_ (layer_at e H W b i q).symm
  unfold dense dot
  rw [hb, table_deg e he]
  refine congrArg (fun t : EReal => t + b (ix1 q)) (Finset.sum_congr rfl fun k _ => ?_)
  rw [mul_recip _ _ (max_one_ne _)]

/-! ## The lines between the calls -/

variable (V : Valuation τ sig (Elt Ideal))

/-- The first line takes the edges' sources. -/
theorem opsA_v1 : after opsA V (dref main_v1) = srcRow (V (dref main_arg4)) := by
  unfold opsA; after_results_simp; rfl
/-- It takes the edges' destinations. -/
theorem opsA_v3 : after opsA V (dref main_v3) = dstRow (V (dref main_arg4)) := by
  unfold opsA; after_results_simp; rfl

/-- The line before the second TensorCore call makes the counters a table. -/
theorem opsB_v8 : after opsB V (dref main_v8) = shapeCast S32x50176 (V (dref main_v7)) shapeCasts_S1605632_S32x50176 := by
  unfold opsB; after_results_simp; rfl
set_option maxRecDepth 16384 in
/-- It makes the first layer's sums. -/
theorem opsB_v24 : after opsB V (dref main_v24)
    = sums (F := Ideal) (V (dref main_v1)) (V (dref main_v3)) (beside (V (dref main_arg0)) (V (dref main_arg1))) := by
  unfold opsB; after_results_simp; rfl
/-- It makes the first layer's bias a row. -/
theorem opsB_v25 : after opsB V (dref main_v25) = shapeCast S1x64 (V (dref main_arg6)) shapeCasts_S64_S1x64 := by
  unfold opsB; after_results_simp; rfl

set_option maxRecDepth 16384 in
/-- The last line makes the second layer's sums. -/
theorem opsC_v42 : after opsC V (dref main_v42)
    = sums (F := Ideal) (V (dref main_v1)) (V (dref main_v3)) (beside (V (dref main_v26_0)) (V (dref main_v26_1))) := by
  unfold opsC; after_results_simp; rfl
/-- It makes the second layer's bias a row. -/
theorem opsC_v43 : after opsC V (dref main_v43) = shapeCast S1x64 (V (dref main_arg8)) shapeCasts_S64_S1x64 := by
  unfold opsC; after_results_simp; rfl

/-! ## A run's arrays -/

section run

variable (m : (ℓ : Loc nD τ sig) → Buf (Elt Ideal) ℓ) (d : Dev nD)

/-- The edges' rows are kept from the first line to the second TensorCore call. -/
theorem rows_V5 {V2 : Valuation τ sig (Elt Ideal)} (h : Left 0 (V1 m d) 0 d V2) (r : Ref sig .tc) (hr : r = main_v1 ∨ r = main_v3) :
    scV (after opsR V2) (dref r) = after opsA (fun b => m (d, b)) (dref r) ∧ V5 V2 (dref r) = after opsA (fun b => m (d, b)) (dref r) := by
  have hk : r ∉ wR ∧ r ∉ wB ∧ r ≠ main_v7 ∧ ∀ w, ((cfgs 0).win w).isOut = true → arrRef (cfgs 0).spec w ≠ r := by
    rcases hr with rfl | rfl
    · exact ⟨by decide, by decide, by decide, fun w => by fin_cases w <;> decide⟩
    · exact ⟨by decide, by decide, by decide, fun w => by fin_cases w <;> decide⟩
  have e := (scV_keep (after opsR V2) hk.2.2.1).trans ((opsR_keep V2 hk.1).trans (left_keep h r hk.2.2.2))
  exact ⟨e, (opsB_keep _ hk.2.1).trans e⟩

/-- The counters before the second TensorCore call. -/
theorem V5_v8 {V2 : Valuation τ sig (Elt Ideal)} (h : Left 0 (V1 m d) 0 d V2) : V5 V2 (dref main_v8) = table (m (d, dref main_arg4)) := by
  refine (opsB_v8 _).trans ?_
  have e : scV (after opsR V2) (dref main_v7) = countsOf (F := Ideal) (rowOf m d) := by
    unfold scV
    rw [Function.update_self, row_read m d V2 h]
  rw [e]
  rfl

/-- An argument before the second line of operations that reads it. -/
theorem args_sc {V2 : Valuation τ sig (Elt Ideal)} (h : Left 0 (V1 m d) 0 d V2) (r : Ref sig .tc) (hr : r ∈ argRefs) :
    scV (after opsR V2) (dref r) = m (d, dref r) :=
  (opsB_keep _ (args_line r hr).2.2.1).symm.trans (args_V5 m h r hr)

/-- The first layer's sums. -/
theorem V5_v24 {V2 : Valuation τ sig (Elt Ideal)} (h : Left 0 (V1 m d) 0 d V2) :
    V5 V2 (dref main_v24) = agg (F := Ideal) (m (d, dref main_arg4)) (beside (m (d, dref main_arg0)) (m (d, dref main_arg1))) := by
  refine (opsB_v24 _).trans ?_
  rw [(rows_V5 m d h main_v1 (.inl rfl)).1, (rows_V5 m d h main_v3 (.inr rfl)).1, args_sc m d h main_arg0 (by decide),
    args_sc m d h main_arg1 (by decide), opsA_v1, opsA_v3]
  rfl

/-- The first layer's bias. -/
theorem V5_v25 {V2 : Valuation τ sig (Elt Ideal)} (h : Left 0 (V1 m d) 0 d V2) :
    V5 V2 (dref main_v25) = shapeCast S1x64 (m (d, dref main_arg6)) shapeCasts_S64_S1x64 := by
  refine (opsB_v25 _).trans ?_
  rw [args_sc m d h main_arg6 (by decide)]

/-- What the second TensorCore call leaves, side by side, is the reference's first layer. -/
theorem hidden_val {V2 V6 : Valuation τ sig (Elt Ideal)} (he : ∀ i, ((m (d, dref main_arg4) : IVec S2x800000 32) i).toNat < 50000)
    (h : Left 0 (V1 m d) 0 d V2) (h6 : Left 1 (V5 V2) 1 d V6) :
    beside (F := Ideal) (V6 (dref main_v26_0)) (V6 (dref main_v26_1))
      = hidden (m (d, dref main_arg0)) (m (d, dref main_arg1)) (m (d, dref main_arg4)) (m (d, dref main_arg5)) (m (d, dref main_arg6)) := by
  have hd (i : Fin 50000) (q : Fin 64) :
      dense (V5 V2 (dref main_v24)) (V5 V2 (dref main_v8)) (V5 V2 (dref main_arg5)) (V5 V2 (dref main_v25)) i q
        = layer (F := Ideal) (m (d, dref main_arg4)) (beside (m (d, dref main_arg0)) (m (d, dref main_arg1))) (m (d, dref main_arg5))
            (m (d, dref main_arg6)) (ix2 i q) := by
    rw [V5_v24 m d h, V5_v8 m d h, V5_v25 m d h, args_V5 m h main_arg5 (by decide)]
    exact dense_layer _ he _ _ _ i q
  funext x
  obtain ⟨i, q, rfl⟩ : ∃ (i : Fin 50000) (q : Fin 64), x = ix2 i q := ⟨x 0, x 1, eq_ix2 x⟩
  have hr : (hidden (F := Ideal) (m (d, dref main_arg0)) (m (d, dref main_arg1)) (m (d, dref main_arg4)) (m (d, dref main_arg5))
      (m (d, dref main_arg6)) (ix2 i q) : EReal)
      = max (layer (F := Ideal) (m (d, dref main_arg4)) (beside (m (d, dref main_arg0)) (m (d, dref main_arg1))) (m (d, dref main_arg5))
            (m (d, dref main_arg6)) (ix2 i q)) 0 := by
    pointwise! [hidden]
  rw [hr, ← hd]
  have hl (a b : Vec Ideal S50000x32 .f32) : beside (F := Ideal) a b (ix2 i q)
      = if h : q.val < 32 then a (ix2 i ⟨q.val, h⟩) else b (ix2 i ⟨q.val - 32, by omega⟩) := by
    pointwise! [beside]
  rw [hl]
  by_cases hq : q.val < 32
  · rw [dif_pos hq]
    exact congrFun (dense1_val 1 (V5 V2) V6 d h6).1 (ix2 i ⟨q.val, hq⟩)
  · rw [dif_neg hq]
    refine (congrFun (dense1_val 1 (V5 V2) V6 d h6).2 (ix2 i ⟨q.val - 32, by omega⟩)).trans ?_
    have : Fin.natAdd 32 (⟨q.val - 32, by omega⟩ : Fin 32) = q := Fin.ext (by show 32 + (q.val - 32) = q.val; omega)
    exact congrArg (fun q => max (dense (V5 V2 (dref main_v24)) (V5 V2 (dref main_v8)) (V5 V2 (dref main_arg5)) (V5 V2 (dref main_v25)) i q) 0) this

/-- The kernel's result is the reference's two layers, paired. -/
theorem result_val {Vf : Valuation τ sig (Elt Ideal)} (he : ∀ i, ((m (d, dref main_arg4) : IVec S2x800000 32) i).toNat < 50000)
    (h : Rel m d Vf) :
    Vf (dref main_v44)
      = pair (F := Ideal) (layer (m (d, dref main_arg4))
          (hidden (m (d, dref main_arg0)) (m (d, dref main_arg1)) (m (d, dref main_arg4)) (m (d, dref main_arg5)) (m (d, dref main_arg6)))
          (m (d, dref main_arg7)) (m (d, dref main_arg8))) (m (d, dref main_arg2)) (m (d, dref main_arg3)) := by
  obtain ⟨V2, V6, h2, h6, hf⟩ := h
  have k1 : V6 (dref main_v1) = srcRow (m (d, dref main_arg4)) :=
    (left_keep h6 main_v1 fun w => by fin_cases w <;> decide).trans ((rows_V5 m d h2 main_v1 (.inl rfl)).2.trans (opsA_v1 _))
  have k3 : V6 (dref main_v3) = dstRow (m (d, dref main_arg4)) :=
    (left_keep h6 main_v3 fun w => by fin_cases w <;> decide).trans ((rows_V5 m d h2 main_v3 (.inr rfl)).2.trans (opsA_v3 _))
  have k42 : V7 V6 (dref main_v42) = agg (F := Ideal) (m (d, dref main_arg4))
      (hidden (m (d, dref main_arg0)) (m (d, dref main_arg1)) (m (d, dref main_arg4)) (m (d, dref main_arg5)) (m (d, dref main_arg6))) := by
    refine (opsC_v42 _).trans ?_
    rw [k1, k3, hidden_val m d he h2 h6]
    rfl
  have k8 : V7 V6 (dref main_v8) = table (m (d, dref main_arg4)) :=
    (opsC_keep V6 (by decide)).trans ((left_keep h6 main_v8 fun w => by fin_cases w <;> decide).trans (V5_v8 m d h2))
  have ka (r : Ref sig .tc) (hr : r ∈ argRefs) : V7 V6 (dref r) = m (d, dref r) := (args_V7 h6 r hr).trans (args_V5 m h2 r hr)
  have k43 : V7 V6 (dref main_v43) = shapeCast S1x64 (m (d, dref main_arg8)) shapeCasts_S64_S1x64 := by
    refine (opsC_v43 _).trans ?_
    rw [show V6 (dref main_arg8) = m (d, dref main_arg8) from
      (opsC_keep V6 (args_line main_arg8 (by decide)).2.2.2.1).symm.trans (ka main_arg8 (by decide))]
  have hd (i : Fin 50000) (q : Fin 64) :
      dense (V7 V6 (dref main_v42)) (V7 V6 (dref main_v8)) (V7 V6 (dref main_arg7)) (V7 V6 (dref main_v43)) i q
        = layer (F := Ideal) (m (d, dref main_arg4))
            (hidden (m (d, dref main_arg0)) (m (d, dref main_arg1)) (m (d, dref main_arg4)) (m (d, dref main_arg5)) (m (d, dref main_arg6)))
            (m (d, dref main_arg7)) (m (d, dref main_arg8)) (ix2 i q) := by
    rw [k42, k8, k43, ka main_arg7 (by decide)]
    exact dense_layer _ he _ _ _ i q
  funext x
  obtain ⟨i, j, rfl⟩ : ∃ (i : Fin 50000) (j : Fin 32), x = ix2 i j := ⟨x 0, x 1, eq_ix2 x⟩
  refine (congrFun (dense2_val 1 (V7 V6) Vf d hf) (ix2 i j)).trans ?_
  refine (congrArg₂ (fun a b : EReal => a + b)
    (congrArg₂ (fun a b : EReal => a * b) (hd i (Fin.castAdd 32 j)) (congrFun (ka main_arg2 (by decide)) (ix2 i j)))
    (congrArg₂ (fun a b : EReal => a * b) (hd i (Fin.natAdd 32 j)) (congrFun (ka main_arg3 (by decide)) (ix2 i j)))).trans ?_
  pointwise! [pair]

end run

end Cert.Proof.Val

end
-- ==== Proof.Equal.lean ====
/-
  The value claim: over the extended reals, from memories whose arguments agree and whose edges name nodes, the kernel and the
  reference end with the same result and with their arguments as they were.
-/
module

public import proofs.«01_k».proof.Proof.Values

@[expose] public section

noncomputable section

namespace Cert.Proof

open Idealize.ShloMosaic Idealize.ShloMosaic.StableHlo
open Idealize.SL.Sem

/-- The reference from a memory whose edges name nodes keeps its arguments too. -/
theorem frame_reference_pre [hp : Cert.Pre_edges_named.Facts] : Cert.quiescent_ReferenceIdeal_pre_edges_named := fun m ρ _ =>
  frame_reference m ρ trivial

namespace Val

open Cert.ReferenceIdeal (S50000x32 S2x800000 S64x64 S64)

/-- The reference as a function of its nine arguments. -/
def net (a0 a1 a2 a3 : FVec Ideal S50000x32 .f32) (e : IVec S2x800000 32) (W1 : FVec Ideal S64x64 .f32) (b1 : FVec Ideal S64 .f32)
    (W2 : FVec Ideal S64x64 .f32) (b2 : FVec Ideal S64 .f32) : FVec Ideal S50000x32 .f32 :=
  pair (layer e (hidden a0 a1 e W1 b1) W2 b2) a2 a3

/-- Equal arguments, equal results. -/
theorem net_congr {a0 a0' a1 a1' a2 a2' a3 a3' : FVec Ideal S50000x32 .f32} {e e' : IVec S2x800000 32} {W1 W1' W2 W2' : FVec Ideal S64x64 .f32}
    {b1 b1' b2 b2' : FVec Ideal S64 .f32} (h0 : a0 = a0') (h1 : a1 = a1') (h2 : a2 = a2') (h3 : a3 = a3') (h4 : e = e') (h5 : W1 = W1')
    (h6 : b1 = b1') (h7 : W2 = W2') (h8 : b2 = b2') : net a0 a1 a2 a3 e W1 b1 W2 b2 = net a0' a1' a2' a3' e' W1' b1' W2' b2' := by
  subst h0 h1 h2 h3 h4 h5 h6 h7 h8; rfl

end Val

open Cert.KernelIdeal (main_arg0 main_arg1 main_arg2 main_arg3 main_arg4 main_arg5 main_arg6 main_arg7 main_arg8 main_v44)

/-- The kernel's result is a tensor value of the TensorCore's. -/
theorem result_uc : (Run.dref main_v44 : DevRef Cert.KernelIdeal.τ Cert.KernelIdeal.sig) ∈ Pipeline.ucRefs Cert.KernelIdeal.τ Cert.KernelIdeal.sig :=
  Finset.mem_filter.2 ⟨devRef_mem_tcRefs main_v44, by decide⟩

/-- The kernel and the reference agree on their result. -/
theorem algebraic [hp : Cert.Pre_edges_named.Facts] : Cert.algebraic_KernelIdeal_ReferenceIdeal := by
  intro m g m' g' hpre harg
  have hE := Run.edges_ok (F := Ideal) m hpre
  refine ⟨fun c => Val.net (m (c, Run.dref main_arg0)) (m (c, Run.dref main_arg1)) (m (c, Run.dref main_arg2)) (m (c, Run.dref main_arg3))
    (m (c, Run.dref main_arg4)) (m (c, Run.dref main_arg5)) (m (c, Run.dref main_arg6)) (m (c, Run.dref main_arg7)) (m (c, Run.dref main_arg8)), ?_, ?_⟩
  · refine (θ_run (Cert.KernelIdeal.defs (F := Ideal)) _ _).mono ?_ (Run.run_main (F := Ideal) m g hE)
    intro r h c
    have a := Run.args_end m h c
    obtain ⟨Vf, hR, hV⟩ := h.1 c
    exact ⟨(hV _ result_uc).trans (Val.result_val m c (hE c) hR),
      a main_arg0 (by decide), a main_arg1 (by decide), a main_arg2 (by decide), a main_arg3 (by decide), a main_arg4 (by decide),
      a main_arg5 (by decide), a main_arg6 (by decide), a main_arg7 (by decide), a main_arg8 (by decide)⟩
  · refine (θ_run Cert.ReferenceIdeal.defs _ _).mono ?_ (Cert.ReferenceIdeal.Value.run (F := Ideal) m' g')
    intro r h c
    obtain ⟨h0, h1, h2, h3, h4, h5, h6, h7, h8⟩ := harg c
    exact ⟨(h c).1.trans ((Val.res_layers m' c).trans (Val.net_congr h0 h1 h2 h3 h4 h5 h6 h7 h8)), (h c).2⟩

end Cert.Proof

end
-- ==== Proof.lean ====
/-
  The claims, put together: the program's frames at words of bits and over the reals, the reference's frames, the
  idealization, and the equality of the program's result with the reference's over the reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Equal

@[expose] public section

noncomputable section

namespace Cert.Proof

/-- The precondition's one broadcast is of a scalar. -/
theorem preFacts : Cert.Pre_edges_named.Facts := ⟨by decide⟩

/-- Every claim. -/
theorem claim : Cert.Claim :=
  haveI := preFacts
  ⟨Cert.Kernel.Gen.facts, Cert.KernelIdeal.Gen.facts, Cert.ReferenceIdeal.Gen.facts, preFacts,
    frame_kernel, frame_kernelIdeal, frame_reference, frame_reference_pre, trivial, algebraic⟩

end Cert.Proof

end
